-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x14336 : Shape := ⟨3, ![2, 768, 14336]⟩
abbrev S2x768x112 : Shape := ⟨3, ![2, 768, 112]⟩
abbrev S14336x4096 : Shape := ⟨2, ![14336, 4096]⟩
abbrev S112x32 : Shape := ⟨2, ![112, 32]⟩
abbrev S2x768x4096 : Shape := ⟨3, ![2, 768, 4096]⟩
abbrev S2x768x7x16 : Shape := ⟨4, ![2, 768, 7, 16]⟩
abbrev S2x7x768x16 : Shape := ⟨4, ![2, 7, 768, 16]⟩
abbrev S1x768x2048 : Shape := ⟨3, ![1, 768, 2048]⟩
abbrev S1x1x768x16 : Shape := ⟨4, ![1, 1, 768, 16]⟩
abbrev S2048x512 : Shape := ⟨2, ![2048, 512]⟩
abbrev S1x768x512 : Shape := ⟨3, ![1, 768, 512]⟩
abbrev S7x768x2048 : Shape := ⟨3, ![7, 768, 2048]⟩
abbrev S768x512 : Shape := ⟨2, ![768, 512]⟩
abbrev S768x2048 : Shape := ⟨2, ![768, 2048]⟩
abbrev S768x16 : Shape := ⟨2, ![768, 16]⟩
abbrev S768x1 : Shape := ⟨2, ![768, 1]⟩
abbrev S768x128 : Shape := ⟨2, ![768, 128]⟩
abbrev S1x1 : Shape := ⟨2, ![1, 1]⟩
abbrev S128x128 : Shape := ⟨2, ![128, 128]⟩
abbrev S128x512 : Shape := ⟨2, ![128, 512]⟩

abbrev nBuf : Space → Nat
  | .hbm => 8
  | .vmem => 12
  | .smem => 1
  | _ => 0

abbrev bufTy : (tb : Table) → Fin (tcTables nBuf tb) → BufTy
  | .hbm, ⟨0, _⟩ => ⟨S2x768x14336, .fp8e4m3⟩
  | .hbm, ⟨1, _⟩ => ⟨S2x768x112, .f32⟩
  | .hbm, ⟨2, _⟩ => ⟨S14336x4096, .fp8e4m3⟩
  | .hbm, ⟨3, _⟩ => ⟨S112x32, .f32⟩
  | .hbm, ⟨4, _⟩ => ⟨S2x768x4096, .bf16⟩
  | .hbm, ⟨5, _⟩ => ⟨S2x768x7x16, .f32⟩
  | .hbm, ⟨6, _⟩ => ⟨S2x7x768x16, .f32⟩
  | .hbm, ⟨7, _⟩ => ⟨S2x768x4096, .bf16⟩
  | .local _ .vmem, ⟨0, _⟩ => ⟨S1x768x2048, .fp8e4m3⟩
  | .local _ .vmem, ⟨1, _⟩ => ⟨S1x768x2048, .fp8e4m3⟩
  | .local _ .vmem, ⟨2, _⟩ => ⟨S1x1x768x16, .f32⟩
  | .local _ .vmem, ⟨3, _⟩ => ⟨S1x1x768x16, .f32⟩
  | .local _ .vmem, ⟨4, _⟩ => ⟨S2048x512, .fp8e4m3⟩
  | .local _ .vmem, ⟨5, _⟩ => ⟨S2048x512, .fp8e4m3⟩
  | .local _ .vmem, ⟨6, _⟩ => ⟨S1x768x512, .bf16⟩
  | .local _ .vmem, ⟨7, _⟩ => ⟨S1x768x512, .bf16⟩
  | .local _ .vmem, ⟨8, _⟩ => ⟨S1x768x512, .bf16⟩
  | .local _ .vmem, ⟨9, _⟩ => ⟨S1x768x512, .bf16⟩
  | .local _ .vmem, ⟨10, _⟩ => ⟨S7x768x2048, .bf16⟩
  | .local _ .vmem, ⟨11, _⟩ => ⟨S768x512, .f32⟩
  | .local _ .smem, ⟨0, _⟩ => ⟨S112x32, .f32⟩
  | _, _ => ⟨S2x768x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 7], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v795 : Index := Scalar.indexCast arg2
  let c0_133 : Index := 0#32
  let c0_134 : Index := 0#32
  ![v795.toNat, 0, 0]
def k0_off2 (i : grid0.Coords) (c0_i32_2 : BitVec 32) (c0_i32_3 : BitVec 32) : Fin 2 → Nat :=
  let arg2 : BitVec 32 := BitVec.ofNat 32 (i 2).val
  let c16_i32 : BitVec 32 := 16#32
  let v4 : BitVec 32 := Scalar.muli arg2 c16_i32
  let v6 : BitVec 32 := Scalar.addi v4 c0_i32_2
  let v8 : Index := Scalar.indexCast v6
  let arg1 : BitVec 32 := BitVec.ofNat 32 (i 1).val
  let c4_i32 : BitVec 32 := 4#32
  let v5 : BitVec 32 := Scalar.muli arg1 c4_i32
  let v7 : BitVec 32 := Scalar.addi v5 c0_i32_3
  let v9 : Index := Scalar.indexCast v7
  ![v8.toNat, v9.toNat]
def k0_off3 (i : grid0.Coords) : Fin 3 → Nat :=
  let arg2 : BitVec 32 := BitVec.ofNat 32 (i 2).val
  let v667 : Index := Scalar.indexCast arg2
  let c0_120 : Index := 0#32
  let c0_121 : Index := 0#32
  ![v667.toNat, 0, 0]
def k0_cond3 (i : grid0.Coords) : BitVec 1 :=
  let arg2 : BitVec 32 := BitVec.ofNat 32 (i 2).val
  let c6_i32_124 : BitVec 32 := 6#32
  let v675 : BitVec 1 := Scalar.cmpi .eq arg2 c6_i32_124
  let v676 : BitVec 32 := Scalar.extui v675
  let c0_i32_125 : BitVec 32 := 0#32
  let v677 : BitVec 1 := Scalar.cmpi .ne v676 c0_i32_125
  v677

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c6_i32 : BitVec 32 := 6#32
  let v1 : BitVec 32 := Scalar.select v0 arg2 c6_i32
  let c0_i32_0 : BitVec 32 := 0#32
  let c0_i32_1 : BitVec 32 := 0#32
  ![arg0.toNat, c0_i32_0.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c6_i32 : BitVec 32 := 6#32
  let v1 : BitVec 32 := Scalar.select v0 arg2 c6_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .smem S112x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x768x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x768x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x768x14336 : Shape := ⟨3, ![2, 768, 14336]⟩
abbrev S2x768x112 : Shape := ⟨3, ![2, 768, 112]⟩
abbrev S14336x4096 : Shape := ⟨2, ![14336, 4096]⟩
abbrev S112x32 : Shape := ⟨2, ![112, 32]⟩
abbrev S2x768x4096 : Shape := ⟨3, ![2, 768, 4096]⟩
abbrev S2x768x112x128 : Shape := ⟨4, ![2, 768, 112, 128]⟩
abbrev S2x768x112x1 : Shape := ⟨4, ![2, 768, 112, 1]⟩
abbrev S1536x14336 : Shape := ⟨2, ![1536, 14336]⟩
abbrev S112x128x32x128 : Shape := ⟨4, ![112, 128, 32, 128]⟩
abbrev S112x1x32x1 : Shape := ⟨4, ![112, 1, 32, 1]⟩
abbrev S1536x4096 : Shape := ⟨2, ![1536, 4096]⟩

abbrev nBuf : Space → Nat
  | .hbm => 6
  | .vmem => 6
  | .smem => 0
  | _ => 0

abbrev bufTy : (tb : Table) → Fin (tcTables nBuf tb) → BufTy
  | .hbm, ⟨0, _⟩ => ⟨S2x768x14336, .fp8e4m3⟩
  | .hbm, ⟨1, _⟩ => ⟨S2x768x112, .f32⟩
  | .hbm, ⟨2, _⟩ => ⟨S14336x4096, .fp8e4m3⟩
  | .hbm, ⟨3, _⟩ => ⟨S112x32, .f32⟩
  | .hbm, ⟨4, _⟩ => ⟨S2x768x4096, .bf16⟩
  | .hbm, ⟨5, _⟩ => ⟨S2x768x4096, .bf16⟩
  | .local _ .vmem, ⟨0, _⟩ => ⟨S2x768x14336, .fp8e4m3⟩
  | .local _ .vmem, ⟨1, _⟩ => ⟨S2x768x112, .f32⟩
  | .local _ .vmem, ⟨2, _⟩ => ⟨S14336x4096, .fp8e4m3⟩
  | .local _ .vmem, ⟨3, _⟩ => ⟨S112x32, .f32⟩
  | .local _ .vmem, ⟨4, _⟩ => ⟨S2x768x4096, .bf16⟩
  | .local _ .vmem, ⟨5, _⟩ => ⟨S2x768x4096, .bf16⟩
  | _, _ => ⟨S2x768x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Base.lean ====
/- What the run of the kernel body is stated over: its three branch conditions in closed form over the grid
   points, where the output window is idle, the staging and scratch buffers, and the body's values by name:
   the dequantised slab of h (`hdSlab`), the dequantised weight tile (`wTile`), and one accumulation step
   (`k0_pay64` of the printed skeleton). -/
module

public import proofs.«01_k».proof.Proof.Gen.Kernel.Frame
public import proofs.«01_k».proof.Proof.Gen.Kernel.Skeleton
public import Idealize.ShloMosaic.Lib.VecWindow
public import Idealize.ShloMosaic.Lib.WholeRead

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions. Point `t` of the 112 is `(t / 56, t / 7 % 8, t % 7)`. -/

/-- The first condition: the column block is the first one (the slab of h is dequantised and kept). -/
abbrev cond0 (i : grid0.Coords) : Prop := k0_cond1 i = 1#1
/-- The second condition: the first step of the contraction (the accumulator is reset). -/
abbrev cond1 (i : grid0.Coords) : Prop := (Scalar.cmpi .ne (Scalar.extui (Scalar.cmpi .eq (BitVec.ofNat 32 (i 2).val) 0#32)) 0#32) = 1#1
/-- The third condition: the last step of the contraction (the output tile is written). -/
abbrev cond2 (i : grid0.Coords) : Prop := k0_cond3 i = 1#1

theorem hcond0 : ∀ t : Fin cfg0.N, cond0 (grid0.coords t) ↔ t.val / 7 % 8 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 7 % 8 := Pipeline.Grid.coords_val t 1 (by decide) rfl
    have e2 : (grid0.coords t 2).val = t.val / 1 % 7 := Pipeline.Grid.coords_val t 2 (by decide) rfl
    simp only [cond0, k0_cond1, e0, e1, e2]
    word_cmp
   : ∀ t : Fin grid0.N, cond0 (grid0.coords t) ↔ t.val / 7 % 8 = 0)

theorem hcond1 : ∀ t : Fin cfg0.N, cond1 (grid0.coords t) ↔ t.val % 7 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 7 % 8 := Pipeline.Grid.coords_val t 1 (by decide) rfl
    have e2 : (grid0.coords t 2).val = t.val / 1 % 7 := Pipeline.Grid.coords_val t 2 (by decide) rfl
    simp only [cond1, e0, e1, e2]
    word_cmp
   : ∀ t : Fin grid0.N, cond1 (grid0.coords t) ↔ t.val % 7 = 0)

theorem hcond2 : ∀ t : Fin cfg0.N, cond2 (grid0.coords t) ↔ t.val % 7 = 6 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 7 % 8 := Pipeline.Grid.coords_val t 1 (by decide) rfl
    have e2 : (grid0.coords t 2).val = t.val / 1 % 7 := Pipeline.Grid.coords_val t 2 (by decide) rfl
    simp only [cond2, k0_cond3, e0, e1, e2]
    word_cmp
   : ∀ t : Fin grid0.N, cond2 (grid0.coords t) ↔ t.val % 7 = 6)

/-! ## Where the output window is idle -/

theorem idleAt5 : ∀ t : Fin cfg0.N, ¬cond2 (grid0.coords t) → cfg0.idle 5 (grid0.coords t) = true := by decide +kernel
theorem noFlush5 : ∀ t : Fin cfg0.N, ¬cond2 (grid0.coords t) → (cfg0.win 5).flush t = false := by decide +kernel
theorem liveAt5 : ∀ t : Fin cfg0.N, cond2 (grid0.coords t) → cfg0.idle 5 (grid0.coords t) = false := by decide +kernel

/-! ## The buffers the body is run on -/

abbrev ms0 (t : Fin cfg0.N) : Memref sig .tc .smem S112x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x768x2048 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x768x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .fp8e4m3 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768x512 .bf16 := win0_5.stage (cfg0.slots t 5)
abbrev hs5 (t : Fin cfg0.N) : (ms5 t).IsWhole := hstage0_5 ((cfg0.slots t 5).cast nbuf0_5)
/-- The scratch that keeps the dequantised slabs of h. -/
abbrev scH : Memref sig .tc .vmem S7x768x2048 .bf16 := Memref.whole cc0_scratch0
/-- The scratch that keeps the accumulator. -/
abbrev scA : Memref sig .tc .vmem S768x512 .f32 := Memref.whole cc0_scratch1

/-- The frame kit's invariant with the two scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scA fullShare d)) ∗ (∃ r, prngReg c r)) := by
  unfold Pipeline.ΦA; rw [scopedRest0_eq]; simp only [scH, scA, owns_whole]; try rfl

/-! ## The body's values by name -/

/-- One group of 128 columns of the slab of h: the codes widened, times the group's scale of each row. -/
def hdGroup (x1 : Vec F S1x768x2048 .fp8e4m3) (x2 : Vec F S1x1x768x16 .f32) (oc os : Fin 2 → ℕ)
    (hc : S768x2048.Slices oc S768x128) (hs : S768x16.Slices os S768x1) : FVec F S768x128 .bf16 :=
  mulf (extf .bf16 (extractStridedSlice S768x128 oc (shapeCast S768x2048 x1 shapeCasts_S1x768x2048_S768x2048) hc) bitsLt_fp8e4m3_bf16)
    (truncf .bf16 (broadcastTo S768x128 (shapeCast S768x1 (extractStridedSlice S768x1 os (shapeCast S768x16 x2 shapeCasts_S1x1x768x16_S768x16) hs) shapeCasts_S768x1_S768x1) broadcasts_S768x1_S768x128) bitsLt_bf16_f32)

/-- The dequantised slab of h: its 16 groups side by side. -/
def hdSlab (x1 : Vec F S1x768x2048 .fp8e4m3) (x2 : Vec F S1x1x768x16 .f32) : FVec F S1x768x2048 .bf16 :=
  shapeCast S1x768x2048 (concatenate S768x2048 1 [
    ⟨S768x128, hdGroup x1 x2 ![0, 0] ![0, 0] slices_S768x2048_o0_0_S768x128 slices_S768x16_o0_0_S768x1⟩,
    ⟨S768x128, hdGroup x1 x2 ![0, 128] ![0, 1] slices_S768x2048_o0_128_S768x128 slices_S768x16_o0_1_S768x1⟩,
    ⟨S768x128, hdGroup x1 x2 ![0, 256] ![0, 2] slices_S768x2048_o0_256_S768x128 slices_S768x16_o0_2_S768x1⟩,
    ⟨S768x128, hdGroup x1 x2 ![0, 384] ![0, 3] slices_S768x2048_o0_384_S768x128 slices_S768x16_o0_3_S768x1⟩,
    ⟨S768x128, hdGroup x1 x2 ![0, 512] ![0, 4] slices_S768x2048_o0_512_S768x128 slices_S768x16_o0_4_S768x1⟩,
    ⟨S768x128, hdGroup x1 x2 ![0, 640] ![0, 5] slices_S768x2048_o0_640_S768x128 slices_S768x16_o0_5_S768x1⟩,
    ⟨S768x128, hdGroup x1 x2 ![0, 768] ![0, 6] slices_S768x2048_o0_768_S768x128 slices_S768x16_o0_6_S768x1⟩,
    ⟨S768x128, hdGroup x1 x2 ![0, 896] ![0, 7] slices_S768x2048_o0_896_S768x128 slices_S768x16_o0_7_S768x1⟩,
    ⟨S768x128, hdGroup x1 x2 ![0, 1024] ![0, 8] slices_S768x2048_o0_1024_S768x128 slices_S768x16_o0_8_S768x1⟩,
    ⟨S768x128, hdGroup x1 x2 ![0, 1152] ![0, 9] slices_S768x2048_o0_1152_S768x128 slices_S768x16_o0_9_S768x1⟩,
    ⟨S768x128, hdGroup x1 x2 ![0, 1280] ![0, 10] slices_S768x2048_o0_1280_S768x128 slices_S768x16_o0_10_S768x1⟩,
    ⟨S768x128, hdGroup x1 x2 ![0, 1408] ![0, 11] slices_S768x2048_o0_1408_S768x128 slices_S768x16_o0_11_S768x1⟩,
    ⟨S768x128, hdGroup x1 x2 ![0, 1536] ![0, 12] slices_S768x2048_o0_1536_S768x128 slices_S768x16_o0_12_S768x1⟩,
    ⟨S768x128, hdGroup x1 x2 ![0, 1664] ![0, 13] slices_S768x2048_o0_1664_S768x128 slices_S768x16_o0_13_S768x1⟩,
    ⟨S768x128, hdGroup x1 x2 ![0, 1792] ![0, 14] slices_S768x2048_o0_1792_S768x128 slices_S768x16_o0_14_S768x1⟩,
    ⟨S768x128, hdGroup x1 x2 ![0, 1920] ![0, 15] slices_S768x2048_o0_1920_S768x128 slices_S768x16_o0_15_S768x1⟩] concatenates_S768x128_S768x128_S768x128_S768x128_S768x128_S768x128_S768x128_S768x128_S768x128_S768x128_S768x128_S768x128_S768x128_S768x128_S768x128_S768x128_S768x2048_d1) shapeCasts_S768x2048_S1x768x2048

/-- One 128×128 tile of the weight: the codes widened, times the tile's scale. -/
def wSub (x3 : Vec F S2048x512 .fp8e4m3) (s : Elt F .f32) (o : Fin 2 → ℕ) (h : S2048x512.Slices o S128x128) : FVec F S128x128 .bf16 :=
  mulf (extf .bf16 (extractStridedSlice S128x128 o x3 h) bitsLt_fp8e4m3_bf16) (truncf .bf16 (broadcast S128x128 s) bitsLt_bf16_f32)

/-- The dequantised weight tile: 16 rows of four 128×128 tiles, from the codes and the tiles' scales. -/
def wTile (x3 : Vec F S2048x512 .fp8e4m3) (s : Fin 16 → Fin 4 → Elt F .f32) : FVec F S2048x512 .bf16 :=
  concatenate S2048x512 0 [
    ⟨S128x512, concatenate S128x512 1 [⟨S128x128, wSub x3 (s 0 0) ![0, 0] slices_S2048x512_o0_0_S128x128⟩, ⟨S128x128, wSub x3 (s 0 1) ![0, 128] slices_S2048x512_o0_128_S128x128⟩, ⟨S128x128, wSub x3 (s 0 2) ![0, 256] slices_S2048x512_o0_256_S128x128⟩, ⟨S128x128, wSub x3 (s 0 3) ![0, 384] slices_S2048x512_o0_384_S128x128⟩] concatenates_S128x128_S128x128_S128x128_S128x128_S128x512_d1⟩,
    ⟨S128x512, concatenate S128x512 1 [⟨S128x128, wSub x3 (s 1 0) ![128, 0] slices_S2048x512_o128_0_S128x128⟩, ⟨S128x128, wSub x3 (s 1 1) ![128, 128] slices_S2048x512_o128_128_S128x128⟩, ⟨S128x128, wSub x3 (s 1 2) ![128, 256] slices_S2048x512_o128_256_S128x128⟩, ⟨S128x128, wSub x3 (s 1 3) ![128, 384] slices_S2048x512_o128_384_S128x128⟩] concatenates_S128x128_S128x128_S128x128_S128x128_S128x512_d1⟩,
    ⟨S128x512, concatenate S128x512 1 [⟨S128x128, wSub x3 (s 2 0) ![256, 0] slices_S2048x512_o256_0_S128x128⟩, ⟨S128x128, wSub x3 (s 2 1) ![256, 128] slices_S2048x512_o256_128_S128x128⟩, ⟨S128x128, wSub x3 (s 2 2) ![256, 256] slices_S2048x512_o256_256_S128x128⟩, ⟨S128x128, wSub x3 (s 2 3) ![256, 384] slices_S2048x512_o256_384_S128x128⟩] concatenates_S128x128_S128x128_S128x128_S128x128_S128x512_d1⟩,
    ⟨S128x512, concatenate S128x512 1 [⟨S128x128, wSub x3 (s 3 0) ![384, 0] slices_S2048x512_o384_0_S128x128⟩, ⟨S128x128, wSub x3 (s 3 1) ![384, 128] slices_S2048x512_o384_128_S128x128⟩, ⟨S128x128, wSub x3 (s 3 2) ![384, 256] slices_S2048x512_o384_256_S128x128⟩, ⟨S128x128, wSub x3 (s 3 3) ![384, 384] slices_S2048x512_o384_384_S128x128⟩] concatenates_S128x128_S128x128_S128x128_S128x128_S128x512_d1⟩,
    ⟨S128x512, concatenate S128x512 1 [⟨S128x128, wSub x3 (s 4 0) ![512, 0] slices_S2048x512_o512_0_S128x128⟩, ⟨S128x128, wSub x3 (s 4 1) ![512, 128] slices_S2048x512_o512_128_S128x128⟩, ⟨S128x128, wSub x3 (s 4 2) ![512, 256] slices_S2048x512_o512_256_S128x128⟩, ⟨S128x128, wSub x3 (s 4 3) ![512, 384] slices_S2048x512_o512_384_S128x128⟩] concatenates_S128x128_S128x128_S128x128_S128x128_S128x512_d1⟩,
    ⟨S128x512, concatenate S128x512 1 [⟨S128x128, wSub x3 (s 5 0) ![640, 0] slices_S2048x512_o640_0_S128x128⟩, ⟨S128x128, wSub x3 (s 5 1) ![640, 128] slices_S2048x512_o640_128_S128x128⟩, ⟨S128x128, wSub x3 (s 5 2) ![640, 256] slices_S2048x512_o640_256_S128x128⟩, ⟨S128x128, wSub x3 (s 5 3) ![640, 384] slices_S2048x512_o640_384_S128x128⟩] concatenates_S128x128_S128x128_S128x128_S128x128_S128x512_d1⟩,
    ⟨S128x512, concatenate S128x512 1 [⟨S128x128, wSub x3 (s 6 0) ![768, 0] slices_S2048x512_o768_0_S128x128⟩, ⟨S128x128, wSub x3 (s 6 1) ![768, 128] slices_S2048x512_o768_128_S128x128⟩, ⟨S128x128, wSub x3 (s 6 2) ![768, 256] slices_S2048x512_o768_256_S128x128⟩, ⟨S128x128, wSub x3 (s 6 3) ![768, 384] slices_S2048x512_o768_384_S128x128⟩] concatenates_S128x128_S128x128_S128x128_S128x128_S128x512_d1⟩,
    ⟨S128x512, concatenate S128x512 1 [⟨S128x128, wSub x3 (s 7 0) ![896, 0] slices_S2048x512_o896_0_S128x128⟩, ⟨S128x128, wSub x3 (s 7 1) ![896, 128] slices_S2048x512_o896_128_S128x128⟩, ⟨S128x128, wSub x3 (s 7 2) ![896, 256] slices_S2048x512_o896_256_S128x128⟩, ⟨S128x128, wSub x3 (s 7 3) ![896, 384] slices_S2048x512_o896_384_S128x128⟩] concatenates_S128x128_S128x128_S128x128_S128x128_S128x512_d1⟩,
    ⟨S128x512, concatenate S128x512 1 [⟨S128x128, wSub x3 (s 8 0) ![1024, 0] slices_S2048x512_o1024_0_S128x128⟩, ⟨S128x128, wSub x3 (s 8 1) ![1024, 128] slices_S2048x512_o1024_128_S128x128⟩, ⟨S128x128, wSub x3 (s 8 2) ![1024, 256] slices_S2048x512_o1024_256_S128x128⟩, ⟨S128x128, wSub x3 (s 8 3) ![1024, 384] slices_S2048x512_o1024_384_S128x128⟩] concatenates_S128x128_S128x128_S128x128_S128x128_S128x512_d1⟩,
    ⟨S128x512, concatenate S128x512 1 [⟨S128x128, wSub x3 (s 9 0) ![1152, 0] slices_S2048x512_o1152_0_S128x128⟩, ⟨S128x128, wSub x3 (s 9 1) ![1152, 128] slices_S2048x512_o1152_128_S128x128⟩, ⟨S128x128, wSub x3 (s 9 2) ![1152, 256] slices_S2048x512_o1152_256_S128x128⟩, ⟨S128x128, wSub x3 (s 9 3) ![1152, 384] slices_S2048x512_o1152_384_S128x128⟩] concatenates_S128x128_S128x128_S128x128_S128x128_S128x512_d1⟩,
    ⟨S128x512, concatenate S128x512 1 [⟨S128x128, wSub x3 (s 10 0) ![1280, 0] slices_S2048x512_o1280_0_S128x128⟩, ⟨S128x128, wSub x3 (s 10 1) ![1280, 128] slices_S2048x512_o1280_128_S128x128⟩, ⟨S128x128, wSub x3 (s 10 2) ![1280, 256] slices_S2048x512_o1280_256_S128x128⟩, ⟨S128x128, wSub x3 (s 10 3) ![1280, 384] slices_S2048x512_o1280_384_S128x128⟩] concatenates_S128x128_S128x128_S128x128_S128x128_S128x512_d1⟩,
    ⟨S128x512, concatenate S128x512 1 [⟨S128x128, wSub x3 (s 11 0) ![1408, 0] slices_S2048x512_o1408_0_S128x128⟩, ⟨S128x128, wSub x3 (s 11 1) ![1408, 128] slices_S2048x512_o1408_128_S128x128⟩, ⟨S128x128, wSub x3 (s 11 2) ![1408, 256] slices_S2048x512_o1408_256_S128x128⟩, ⟨S128x128, wSub x3 (s 11 3) ![1408, 384] slices_S2048x512_o1408_384_S128x128⟩] concatenates_S128x128_S128x128_S128x128_S128x128_S128x512_d1⟩,
    ⟨S128x512, concatenate S128x512 1 [⟨S128x128, wSub x3 (s 12 0) ![1536, 0] slices_S2048x512_o1536_0_S128x128⟩, ⟨S128x128, wSub x3 (s 12 1) ![1536, 128] slices_S2048x512_o1536_128_S128x128⟩, ⟨S128x128, wSub x3 (s 12 2) ![1536, 256] slices_S2048x512_o1536_256_S128x128⟩, ⟨S128x128, wSub x3 (s 12 3) ![1536, 384] slices_S2048x512_o1536_384_S128x128⟩] concatenates_S128x128_S128x128_S128x128_S128x128_S128x512_d1⟩,
    ⟨S128x512, concatenate S128x512 1 [⟨S128x128, wSub x3 (s 13 0) ![1664, 0] slices_S2048x512_o1664_0_S128x128⟩, ⟨S128x128, wSub x3 (s 13 1) ![1664, 128] slices_S2048x512_o1664_128_S128x128⟩, ⟨S128x128, wSub x3 (s 13 2) ![1664, 256] slices_S2048x512_o1664_256_S128x128⟩, ⟨S128x128, wSub x3 (s 13 3) ![1664, 384] slices_S2048x512_o1664_384_S128x128⟩] concatenates_S128x128_S128x128_S128x128_S128x128_S128x512_d1⟩,
    ⟨S128x512, concatenate S128x512 1 [⟨S128x128, wSub x3 (s 14 0) ![1792, 0] slices_S2048x512_o1792_0_S128x128⟩, ⟨S128x128, wSub x3 (s 14 1) ![1792, 128] slices_S2048x512_o1792_128_S128x128⟩, ⟨S128x128, wSub x3 (s 14 2) ![1792, 256] slices_S2048x512_o1792_256_S128x128⟩, ⟨S128x128, wSub x3 (s 14 3) ![1792, 384] slices_S2048x512_o1792_384_S128x128⟩] concatenates_S128x128_S128x128_S128x128_S128x128_S128x512_d1⟩,
    ⟨S128x512, concatenate S128x512 1 [⟨S128x128, wSub x3 (s 15 0) ![1920, 0] slices_S2048x512_o1920_0_S128x128⟩, ⟨S128x128, wSub x3 (s 15 1) ![1920, 128] slices_S2048x512_o1920_128_S128x128⟩, ⟨S128x128, wSub x3 (s 15 2) ![1920, 256] slices_S2048x512_o1920_256_S128x128⟩, ⟨S128x128, wSub x3 (s 15 3) ![1920, 384] slices_S2048x512_o1920_384_S128x128⟩] concatenates_S128x128_S128x128_S128x128_S128x128_S128x512_d1⟩] concatenates_S128x512_S128x512_S128x512_S128x512_S128x512_S128x512_S128x512_S128x512_S128x512_S128x512_S128x512_S128x512_S128x512_S128x512_S128x512_S128x512_S2048x512_d0

/-- The tiles' scales at a point: the words of the scale table the body reads. -/
def wsc (i : grid0.Coords) (x0 : Vec F S112x32 .f32) : Fin 16 → Fin 4 → Elt F .f32 := fun a b =>
  x0 ((Rect.unit (s := S112x32) (k0_off2 i (BitVec.ofNat 32 a.val) (BitVec.ofNat 32 b.val)) S1x1.size (k0_off2_inb i a b)).toLoadRect.idx
    (Shape.Idx.first (show 0 < S1x1.numel by decide)))

/-- The slab of the kept array that the point's step reads. -/
def slabOf (d : Vec F S7x768x2048 .bf16) (i : grid0.Coords) : Vec F S1x768x2048 .bf16 :=
  VecWindow.window d (k0_off3 i) S1x768x2048.size (k0_off3_inb i)

/-- The kept array with the point's slab replaced. -/
def slabPut (d : Vec F S7x768x2048 .bf16) (i : grid0.Coords) (w : Vec F S1x768x2048 .bf16) : Vec F S7x768x2048 .bf16 :=
  VecWindow.put d (k0_off3 i) S1x768x2048.size w

/-! ## What the body's loads read -/

theorem pay64_congr {w w' : FVec F S2048x512 .bf16} {a a' : Vec F S768x512 .f32} {h h' : Vec F S1x768x2048 .bf16}
    (ew : w = w') (ea : a = a') (eh : h = h') : k0_pay64 w a h = k0_pay64 w' a' h' := by subst ew ea eh; rfl

theorem pay1_congr {x x' : Vec F S1x768x512 .bf16} {a a' : Vec F S768x512 .f32}
    (ex : x = x') (ea : a = a') : k0_pay1 x a = k0_pay1 x' a' := by subst ex ea; rfl

/-- A load of a whole memref held at contents that read `x` reads `x`. -/
theorem load_whole {sp : Space} {s : Shape} {e : EltTy} {M : Memref sig .tc sp s e} (h : M.IsWhole) (x : Vec F s e)
    {off : Fin s.rank → ℕ} (inb : ∀ a, off a + s.size a ≤ s.size a) :
    View.readAt (Elt F) M.view (Rect.unit off s.size inb).toLoadRect (h.unread x) = x :=
  (View.readAt_full M.view _ inb).trans (h.read_unread x)

theorem wTile_read {arg3 : Memref sig .tc .smem S112x32 .f32} (harg3 : arg3.IsWhole) {arg6 : Memref sig .tc .vmem S2048x512 .fp8e4m3} (harg6 : arg6.IsWhole)
    (i : grid0.Coords) (x0 : Vec F S112x32 .f32) (x3 : Vec F S2048x512 .fp8e4m3) :
    wTile (View.readAt (Elt F) arg6.view (Rect.unit (s := S2048x512) ![0, 0] S2048x512.size inb_S2048x512_S2048x512_0_0).toLoadRect (harg6.unread x3))
      (fun a b => View.readAt (Elt F) arg3.view (Rect.unit (s := S112x32) (k0_off2 i (BitVec.ofNat 32 a.val) (BitVec.ofNat 32 b.val)) S1x1.size (k0_off2_inb i a b)).toLoadRect (harg3.unread x0)
        (Shape.Idx.first (show 0 < S1x1.numel by decide)))
      = wTile x3 (wsc i x0) := by
  have e : (fun (a : Fin 16) (b : Fin 4) => View.readAt (Elt F) arg3.view (Rect.unit (s := S112x32) (k0_off2 i (BitVec.ofNat 32 a.val) (BitVec.ofNat 32 b.val)) S1x1.size (k0_off2_inb i a b)).toLoadRect (harg3.unread x0)
        (Shape.Idx.first (show 0 < S1x1.numel by decide))) = wsc i x0 := by
    funext a b; exact harg3.readAt_unread x0 _ _
  rw [load_whole harg6 x3, e]

theorem slab_read {arg9 : Memref sig .tc .vmem S7x768x2048 .bf16} (harg9 : arg9.IsWhole) (d : Vec F S7x768x2048 .bf16) (i : grid0.Coords) :
    View.readAt (Elt F) arg9.view (Rect.unit (s := S7x768x2048) (k0_off3 i) S1x768x2048.size (k0_off3_inb i)).toLoadRect (harg9.unread d) = slabOf d i :=
  (View.readAt_unit arg9.view _ _ rfl (k0_off3_inb i)).trans (congrArg (fun d => slabOf d i) (harg9.read_unread d))

theorem hdSlab_read {arg4 : Memref sig .tc .vmem S1x768x2048 .fp8e4m3} (harg4 : arg4.IsWhole) {arg5 : Memref sig .tc .vmem S1x1x768x16 .f32} (harg5 : arg5.IsWhole)
    (x1 : Vec F S1x768x2048 .fp8e4m3) (x2 : Vec F S1x1x768x16 .f32) :
    hdSlab (View.readAt (Elt F) arg4.view (Rect.unit (s := S1x768x2048) ![0, 0, 0] S1x768x2048.size inb_S1x768x2048_S1x768x2048_0_0_0).toLoadRect (harg4.unread x1))
      (View.readAt (Elt F) arg5.view (Rect.unit (s := S1x1x768x16) ![0, 0, 0, 0] S1x1x768x16.size inb_S1x1x768x16_S1x1x768x16_0_0_0_0).toLoadRect (harg5.unread x2))
      = hdSlab x1 x2 := by
  rw [load_whole harg4 x1, load_whole harg5 x2]

/-- What the store of the slab leaves in the kept array. -/
theorem slab_store {arg4 : Memref sig .tc .vmem S1x768x2048 .fp8e4m3} (harg4 : arg4.IsWhole) {arg5 : Memref sig .tc .vmem S1x1x768x16 .f32} (harg5 : arg5.IsWhole)
    {arg9 : Memref sig .tc .vmem S7x768x2048 .bf16} (harg9 : arg9.IsWhole) (i : grid0.Coords) (inb : ∀ a, k0_off1 i a + S1x768x2048.size a ≤ S7x768x2048.size a)
    (x1 : Vec F S1x768x2048 .fp8e4m3) (x2 : Vec F S1x1x768x16 .f32) (d : Vec F S7x768x2048 .bf16) :
    View.read (Elt F) arg9.view (arg9.view.writes (Elt F) (harg9.unread d)
      [(⟨Rect.unit (s := S7x768x2048) (k0_off1 i) S1x768x2048.size inb, hdSlab (View.readAt (Elt F) arg4.view (Rect.unit (s := S1x768x2048) ![0, 0, 0] S1x768x2048.size inb_S1x768x2048_S1x768x2048_0_0_0).toLoadRect (harg4.unread x1))
        (View.readAt (Elt F) arg5.view (Rect.unit (s := S1x1x768x16) ![0, 0, 0, 0] S1x1x768x16.size inb_S1x1x768x16_S1x1x768x16_0_0_0_0).toLoadRect (harg5.unread x2))⟩ : View.Piece (Elt F) S7x768x2048 .bf16)])
      = slabPut d i (hdSlab x1 x2) := by
  refine (View.read_writes_cons_put arg9.view _ inb _ [] rfl).trans ?_
  rw [hdSlab_read harg4 harg5, View.writes_nil, harg9.read_unread d]
  rfl

/-- The slab read back at the point that stored it. -/
theorem slab_reload {arg4 : Memref sig .tc .vmem S1x768x2048 .fp8e4m3} (harg4 : arg4.IsWhole) {arg5 : Memref sig .tc .vmem S1x1x768x16 .f32} (harg5 : arg5.IsWhole)
    (arg9 : Memref sig .tc .vmem S7x768x2048 .bf16) (i : grid0.Coords) (inb : ∀ a, k0_off1 i a + S1x768x2048.size a ≤ S7x768x2048.size a)
    (x1 : Vec F S1x768x2048 .fp8e4m3) (x2 : Vec F S1x1x768x16 .f32) :
    View.readCov (Val := Elt F) arg9.view
      [(⟨Rect.unit (s := S7x768x2048) (k0_off1 i) S1x768x2048.size inb, hdSlab (View.readAt (Elt F) arg4.view (Rect.unit (s := S1x768x2048) ![0, 0, 0] S1x768x2048.size inb_S1x768x2048_S1x768x2048_0_0_0).toLoadRect (harg4.unread x1))
        (View.readAt (Elt F) arg5.view (Rect.unit (s := S1x1x768x16) ![0, 0, 0, 0] S1x1x768x16.size inb_S1x1x768x16_S1x1x768x16_0_0_0_0).toLoadRect (harg5.unread x2))⟩ : View.Piece (Elt F) S7x768x2048 .bf16)]
      (Rect.unit (s := S7x768x2048) (k0_off3 i) S1x768x2048.size (k0_off3_inb i)).toLoadRect
      = hdSlab x1 x2 :=
  (View.readCov_cons_toLoadRect arg9.view (Rect.unit (s := S7x768x2048) (k0_off1 i) S1x768x2048.size inb) _ []).trans (hdSlab_read harg4 harg5 x1 x2)

/-- The accumulator read back after a whole store. -/
theorem acc_reload (arg10 : Memref sig .tc .vmem S768x512 .f32) (w : Vec F S768x512 .f32) (L : List (View.Piece (Elt F) S768x512 .f32)) :
    View.readCov (Val := Elt F) arg10.view ((⟨Rect.unit (s := S768x512) ![0, 0] S768x512.size inb_S768x512_S768x512_0_0, w⟩ : View.Piece (Elt F) S768x512 .f32) :: L)
      (Rect.unit (s := S768x512) ![0, 0] S768x512.size inb_S768x512_S768x512_0_0).toLoadRect = w :=
  View.readCov_full arg10.view inb_S768x512_S768x512_0_0 inb_S768x512_S768x512_0_0 w L

/-- What a whole store leaves in the accumulator. -/
theorem acc_store (arg10 : Memref sig .tc .vmem S768x512 .f32) (f : arg10.view.ty.Contents (Elt F)) (w : Vec F S768x512 .f32) (L : List (View.Piece (Elt F) S768x512 .f32)) :
    View.read (Elt F) arg10.view (arg10.view.writes (Elt F) f ((⟨Rect.unit (s := S768x512) ![0, 0] S768x512.size inb_S768x512_S768x512_0_0, w⟩ : View.Piece (Elt F) S768x512 .f32) :: L)) = w :=
  View.read_writes_full arg10.view f inb_S768x512_S768x512_0_0 w L

/-- What a whole store leaves in the output tile. -/
theorem out_store (arg8 : Memref sig .tc .vmem S1x768x512 .bf16) (f : arg8.view.ty.Contents (Elt F)) (w : Vec F S1x768x512 .bf16) (L : List (View.Piece (Elt F) S1x768x512 .bf16)) :
    View.read (Elt F) arg8.view (arg8.view.writes (Elt F) f ((⟨Rect.unit (s := S1x768x512) ![0, 0, 0] S1x768x512.size inb_S1x768x512_S1x768x512_0_0_0, w⟩ : View.Piece (Elt F) S1x768x512 .bf16) :: L)) = w :=
  View.read_writes_full arg8.view f inb_S1x768x512_S1x768x512_0_0_0 w L

end Cert.Kernel.Down

end
-- ==== Proof.Kernel.RunA.lean ====
/- The run of the kernel body in one of its six cases: the first column block: the slab of h is dequantised and kept, the first step of the contraction.
   On whole staging memrefs at given contents the body ends with the inputs as they were and the scratch and output
   buffers at the named values. -/
module

public import proofs.«01_k».proof.Proof.Kernel.Base

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runA (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : cond0 i) (hc1 : cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (slabPut xs0 i (hdSlab x1 x2))
                ∗ owns (c : Thread nD τ) arg10 fullShare (k0_pay64 (wTile x3 (wsc i x0)) k0_pay63 (hdSlab x1 x2))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact slab_store harg4 harg5 harg9 i (k0_off1_inb i hc0) x1 x2 xs0
      iexact HS0
    iexists _; isplitr
    rotate_left
    · iexact HS1
    ipureintro; exact (acc_store arg10 _ _ _).trans (pay64_congr (wTile_read harg3 harg6 i x0 x3) (acc_reload arg10 k0_pay63 []) (slab_reload harg4 harg5 arg9 i (k0_off1_inb i hc0) x1 x2))

end Cert.Kernel.Down

end
-- ==== Proof.Kernel.RunB.lean ====
/- The run of the kernel body in one of its six cases: the first column block: the slab of h is dequantised and kept, a middle step of the contraction.
   On whole staging memrefs at given contents the body ends with the inputs as they were and the scratch and output
   buffers at the named values. -/
module

public import proofs.«01_k».proof.Proof.Kernel.RunA

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runB (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : cond0 i) (hc1 : ¬cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (slabPut xs0 i (hdSlab x1 x2))
                ∗ owns (c : Thread nD τ) arg10 fullShare (k0_pay64 (wTile x3 (wsc i x0)) xs1 (hdSlab x1 x2))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact slab_store harg4 harg5 harg9 i (k0_off1_inb i hc0) x1 x2 xs0
      iexact HS0
    iexists _; isplitr
    rotate_left
    · iexact HS1
    ipureintro; exact (acc_store arg10 _ _ _).trans (pay64_congr (wTile_read harg3 harg6 i x0 x3) (load_whole harg10 xs1 inb_S768x512_S768x512_0_0) (slab_reload harg4 harg5 arg9 i (k0_off1_inb i hc0) x1 x2))

end Cert.Kernel.Down

end
-- ==== Proof.Kernel.RunC.lean ====
/- The run of the kernel body in one of its six cases: the first column block: the slab of h is dequantised and kept, the last step of the contraction, where the output tile is written.
   On whole staging memrefs at given contents the body ends with the inputs as they were and the scratch and output
   buffers at the named values. -/
module

public import proofs.«01_k».proof.Proof.Kernel.RunB

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runC (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : cond0 i) (hc1 : ¬cond1 i) (hc2 : cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare (k0_pay1 x4 (k0_pay64 (wTile x3 (wsc i x0)) xs1 (hdSlab x1 x2)))
                ∗ owns (c : Thread nD τ) arg9 fullShare (slabPut xs0 i (hdSlab x1 x2))
                ∗ owns (c : Thread nD τ) arg10 fullShare (k0_pay64 (wTile x3 (wsc i x0)) xs1 (hdSlab x1 x2))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      rotate_left
      · iexact H5
      ipureintro; exact (out_store arg8 _ _ _).trans (pay1_congr (load_whole harg7 x4 inb_S1x768x512_S1x768x512_0_0_0) ((acc_reload arg10 _ _).trans (pay64_congr (wTile_read harg3 harg6 i x0 x3) (load_whole harg10 xs1 inb_S768x512_S768x512_0_0) (slab_reload harg4 harg5 arg9 i (k0_off1_inb i hc0) x1 x2))))
    isplitl [HS0]
    · iexists _; isplitr; · ipureintro; exact slab_store harg4 harg5 harg9 i (k0_off1_inb i hc0) x1 x2 xs0
      iexact HS0
    iexists _; isplitr
    rotate_left
    · iexact HS1
    ipureintro; exact (acc_store arg10 _ _ _).trans (pay64_congr (wTile_read harg3 harg6 i x0 x3) (load_whole harg10 xs1 inb_S768x512_S768x512_0_0) (slab_reload harg4 harg5 arg9 i (k0_off1_inb i hc0) x1 x2))

end Cert.Kernel.Down

end
-- ==== Proof.Kernel.RunD.lean ====
/- The run of the kernel body in one of its six cases: a later column block: the kept slab of h is read, the first step of the contraction.
   On whole staging memrefs at given contents the body ends with the inputs as they were and the scratch and output
   buffers at the named values. -/
module

public import proofs.«01_k».proof.Proof.Kernel.RunC

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runD (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : ¬cond0 i) (hc1 : cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (xs0)
                ∗ owns (c : Thread nD τ) arg10 fullShare (k0_pay64 (wTile x3 (wsc i x0)) k0_pay63 (slabOf xs0 i))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; isplitr
    rotate_left
    · iexact HS1
    ipureintro; exact (acc_store arg10 _ _ _).trans (pay64_congr (wTile_read harg3 harg6 i x0 x3) (acc_reload arg10 k0_pay63 []) (slab_read harg9 xs0 i))

end Cert.Kernel.Down

end
-- ==== Proof.Kernel.RunE.lean ====
/- The run of the kernel body in one of its six cases: a later column block: the kept slab of h is read, a middle step of the contraction.
   On whole staging memrefs at given contents the body ends with the inputs as they were and the scratch and output
   buffers at the named values. -/
module

public import proofs.«01_k».proof.Proof.Kernel.RunD

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runE (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : ¬cond0 i) (hc1 : ¬cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (xs0)
                ∗ owns (c : Thread nD τ) arg10 fullShare (k0_pay64 (wTile x3 (wsc i x0)) xs1 (slabOf xs0 i))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; isplitr
    rotate_left
    · iexact HS1
    ipureintro; exact (acc_store arg10 _ _ _).trans (pay64_congr (wTile_read harg3 harg6 i x0 x3) (load_whole harg10 xs1 inb_S768x512_S768x512_0_0) (slab_read harg9 xs0 i))

end Cert.Kernel.Down

end
-- ==== Proof.Kernel.RunF.lean ====
/- The run of the kernel body in one of its six cases: a later column block: the kept slab of h is read, the last step of the contraction, where the output tile is written.
   On whole staging memrefs at given contents the body ends with the inputs as they were and the scratch and output
   buffers at the named values. -/
module

public import proofs.«01_k».proof.Proof.Kernel.RunE

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runF (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : ¬cond0 i) (hc1 : ¬cond1 i) (hc2 : cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare (k0_pay1 x4 (k0_pay64 (wTile x3 (wsc i x0)) xs1 (slabOf xs0 i)))
                ∗ owns (c : Thread nD τ) arg9 fullShare (xs0)
                ∗ owns (c : Thread nD τ) arg10 fullShare (k0_pay64 (wTile x3 (wsc i x0)) xs1 (slabOf xs0 i))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      rotate_left
      · iexact H5
      ipureintro; exact (out_store arg8 _ _ _).trans (pay1_congr (load_whole harg7 x4 inb_S1x768x512_S1x768x512_0_0_0) ((acc_reload arg10 _ _).trans (pay64_congr (wTile_read harg3 harg6 i x0 x3) (load_whole harg10 xs1 inb_S768x512_S768x512_0_0) (slab_read harg9 xs0 i))))
    isplitl [HS0]
    · iexists _; isplitr; · ipureintro; exact harg9.read_unread _
      iexact HS0
    iexists _; isplitr
    rotate_left
    · iexact HS1
    ipureintro; exact (acc_store arg10 _ _ _).trans (pay64_congr (wTile_read harg3 harg6 i x0 x3) (load_whole harg10 xs1 inb_S768x512_S768x512_0_0) (slab_read harg9 xs0 i))

end Cert.Kernel.Down

end
-- ==== Proof.Kernel.Inv.lean ====
/- The invariant of the grid loop, and the body's six cases put together.

   Before point `n` of the 112 (in the order image `m`, column block `n`, step `k`):
   * the accumulator holds `accN` of the point before: the sum so far of the products of its column block;
   * every point already done for the same image has its dequantised slab of h in the kept array. -/
module

public import proofs.«01_k».proof.Proof.Kernel.RunF

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values along the grid -/

/-- The grid point of a number (numbers past the last wrap round). -/
def pt (n : ℕ) : Fin cfg0.N := ⟨n % cfg0.N, Nat.mod_lt _ (by rw [show cfg0.N = 112 from N_0]; decide)⟩

theorem pt_val (t : Fin cfg0.N) : pt t.val = t := Fin.ext (Nat.mod_eq_of_lt t.isLt)
theorem pt_val_of_lt {n : ℕ} (h : n < 112) : (pt n).val = n := Nat.mod_eq_of_lt (by rw [show cfg0.N = 112 from N_0]; exact h)

/-- The point of the first column block with the image and the step of point `n`: where the step's slab is dequantised. -/
def first (n : ℕ) : Fin cfg0.N := pt (n / 56 * 56 + n % 7)

/-- The dequantised slab of h that point `n` multiplies by. -/
def hdN (c : Dev nD) (n : ℕ) : FVec F S1x768x2048 .bf16 := hdSlab (iblk m c 1 (first n)) (iblk m c 2 (first n))

/-- The dequantised weight tile of point `n`. -/
def wN (c : Dev nD) (n : ℕ) : FVec F S2048x512 .bf16 := wTile (iblk m c 3 (pt n)) (wsc (grid0.coords (pt n)) (iblk m c 0 (pt n)))

/-- The accumulator after point `n`. -/
def accN (c : Dev nD) : ℕ → Vec F S768x512 .f32
  | 0 => k0_pay64 (wN m c 0) k0_pay63 (hdN m c 0)
  | n + 1 => k0_pay64 (wN m c (n + 1)) (if (n + 1) % 7 = 0 then k0_pay63 else accN c n) (hdN m c (n + 1))

/-- The accumulator after point `n`, from the one before. -/
theorem accN_eq (c : Dev nD) (n : ℕ) :
    accN m c n = k0_pay64 (wN m c n) (if n % 7 = 0 then k0_pay63 else accN m c (n - 1)) (hdN m c n) := by
  cases n with
  | zero => rfl
  | succ n => rfl

/-- The output tile written at point `n` (if it is the last step of its column block). -/
def outN (c : Dev nD) (n : ℕ) : Vec F S1x768x512 .bf16 := k0_pay1 (iblk m c 4 (pt n)) (accN m c n)

theorem hdN_congr (c : Dev nD) {n n' : ℕ} (h1 : n / 56 = n' / 56) (h2 : n % 7 = n' % 7) : hdN m c n = hdN m c n' := by
  unfold hdN first; rw [h1, h2]

/-! ## The invariant's pure part -/

/-- Before point `n`: the points already done for the image have their slab in the kept array. -/
def KeptAt (c : Dev nD) (n : ℕ) (d : Vec F S7x768x2048 .bf16) : Prop :=
  ∀ t : Fin cfg0.N, t.val < n → t.val / 56 = (n - 1) / 56 → slabOf d (grid0.coords t) = hdN m c t.val

/-- Before point `n`: the accumulator is what the point before left. -/
def AccAt (c : Dev nD) (n : ℕ) (a : Vec F S768x512 .f32) : Prop := n ≠ 0 → a = accN m c (n - 1)

theorem coords2 (t : Fin cfg0.N) : (grid0.coords t 2).val = t.val % 7 := by
  have e2 : (grid0.coords t 2).val = t.val / 1 % 7 := Pipeline.Grid.coords_val t 2 (by decide) rfl
  rw [e2, Nat.div_one]

theorem off3_congr {i i' : grid0.Coords} (h : (i 2).val = (i' 2).val) : k0_off3 i = k0_off3 i' := by
  unfold k0_off3; rw [h]

theorem off3_zero : ∀ k : Fin 7, (BitVec.ofNat 32 k.val).toNat = k.val := by decide

theorem off3_val (i : grid0.Coords) : k0_off3 i 0 = (i 2).val := off3_zero (i 2)

theorem slabOf_congr (d : Vec F S7x768x2048 .bf16) {i i' : grid0.Coords} (h : (i 2).val = (i' 2).val) : slabOf d i = slabOf d i' := by
  unfold slabOf
  have e := off3_congr h
  have g : ∀ (o o' : Fin 3 → ℕ) (e : o = o') (p : ∀ a, o a + S1x768x2048.size a ≤ S7x768x2048.size a) (p' : ∀ a, o' a + S1x768x2048.size a ≤ S7x768x2048.size a),
      (VecWindow.window d o S1x768x2048.size p : Vec F S1x768x2048 .bf16) = VecWindow.window d o' S1x768x2048.size p' := by
    intro o o' e p p'; subst e; rfl
  exact g _ _ e _ _

theorem slabOf_put_same (d : Vec F S7x768x2048 .bf16) (i : grid0.Coords) (w : Vec F S1x768x2048 .bf16) : slabOf (slabPut d i w) i = w :=
  VecWindow.window_put_same d _ _ _ w

theorem slabOf_put_ne (d : Vec F S7x768x2048 .bf16) {i i' : grid0.Coords} (h : (i 2).val ≠ (i' 2).val) (w : Vec F S1x768x2048 .bf16) :
    slabOf (slabPut d i w) i' = slabOf d i' := by
  refine VecWindow.window_put_of_disjoint d _ _ _ _ _ w (0 : Fin 3) ?_
  show k0_off3 i' 0 + 1 ≤ k0_off3 i 0 ∨ k0_off3 i 0 + 1 ≤ k0_off3 i' 0
  rw [off3_val, off3_val]; omega

/-- At a point of the first column block the slab is dequantised and put. -/
theorem kept_put (c : Dev nD) (t : Fin cfg0.N) (h0 : t.val / 7 % 8 = 0) {d : Vec F S7x768x2048 .bf16} (h : KeptAt m c t.val d) :
    KeptAt m c (t.val + 1) (slabPut d (grid0.coords t) (hdN m c t.val)) := by
  intro t' hlt hm
  rw [Nat.add_sub_cancel] at hm
  by_cases hk : t'.val % 7 = t.val % 7
  · rw [slabOf_congr _ (show (grid0.coords t' 2).val = (grid0.coords t 2).val by rw [coords2, coords2, hk]), slabOf_put_same]
    exact hdN_congr m c hm.symm hk.symm
  · rw [slabOf_put_ne _ (show (grid0.coords t 2).val ≠ (grid0.coords t' 2).val by rw [coords2, coords2]; exact fun e => hk e.symm)]
    exact h t' (by have : t'.val ≠ t.val := fun e => hk (by rw [e]); omega) (by have : t'.val ≠ t.val := fun e => hk (by rw [e]); omega)

/-- At a point of a later column block the point's slab is in the kept array. -/
theorem kept_slab (c : Dev nD) (t : Fin cfg0.N) (h0 : ¬t.val / 7 % 8 = 0) {d : Vec F S7x768x2048 .bf16} (h : KeptAt m c t.val d) :
    slabOf d (grid0.coords t) = hdN m c t.val := by
  have hN : t.val < 112 := lt_of_lt_of_eq t.isLt (show cfg0.N = 112 from N_0)
  have hv : (pt (t.val - 7)).val = t.val - 7 := pt_val_of_lt (by omega)
  have h' := h (pt (t.val - 7)) (by rw [hv]; omega) (by rw [hv]; omega)
  rw [slabOf_congr d (show (grid0.coords t 2).val = (grid0.coords (pt (t.val - 7)) 2).val by rw [coords2, coords2, hv]; omega), h', hv]
  exact hdN_congr m c (by omega) (by omega)

/-- At a point of a later column block the kept array stays as it is. -/
theorem kept_step (c : Dev nD) (t : Fin cfg0.N) (h0 : ¬t.val / 7 % 8 = 0) {d : Vec F S7x768x2048 .bf16} (h : KeptAt m c t.val d) :
    KeptAt m c (t.val + 1) d := by
  intro t' hlt hm
  rw [Nat.add_sub_cancel] at hm
  by_cases he : t'.val = t.val
  · rw [Fin.ext he]; exact kept_slab m c t h0 h
  · exact h t' (by omega) (by omega)

/-! ## The body's six cases in one statement -/

theorem run (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (hd : Vec F S7x768x2048 .bf16) (ac : Vec F S768x512 .f32) (ou : Vec F S1x768x512 .bf16)
    (h02 : cond1 i → ¬cond2 i)
    (hhd : hd = if cond0 i then slabPut xs0 i (hdSlab x1 x2) else xs0)
    (hac : ac = k0_pay64 (wTile x3 (wsc i x0)) (if cond1 i then k0_pay63 else xs1) (if cond0 i then hdSlab x1 x2 else slabOf xs0 i))
    (hou : ou = if cond2 i then k0_pay1 x4 ac else xi5)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare ou
                ∗ owns (c : Thread nD τ) arg9 fullShare hd
                ∗ owns (c : Thread nD τ) arg10 fullShare ac) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
  by_cases h0 : cond0 i <;> by_cases h1 : cond1 i <;> by_cases h2 : cond2 i
  · exact absurd h2 (h02 h1)
  · rw [if_pos h0] at hhd; rw [if_pos h1, if_pos h0] at hac; rw [if_neg h2] at hou; rw [hou, hac, hhd]
    exact runA c i _ harg3 _ harg4 _ harg5 _ harg6 _ harg7 _ harg8 _ harg9 _ harg10 h0 h1 h2 _ _ _ _ _ _ _ _ E K
  · rw [if_pos h0] at hhd; rw [if_neg h1, if_pos h0] at hac; rw [if_pos h2] at hou; rw [hou, hac, hhd]
    exact runC c i _ harg3 _ harg4 _ harg5 _ harg6 _ harg7 _ harg8 _ harg9 _ harg10 h0 h1 h2 _ _ _ _ _ _ _ _ E K
  · rw [if_pos h0] at hhd; rw [if_neg h1, if_pos h0] at hac; rw [if_neg h2] at hou; rw [hou, hac, hhd]
    exact runB c i _ harg3 _ harg4 _ harg5 _ harg6 _ harg7 _ harg8 _ harg9 _ harg10 h0 h1 h2 _ _ _ _ _ _ _ _ E K
  · exact absurd h2 (h02 h1)
  · rw [if_neg h0] at hhd; rw [if_pos h1, if_neg h0] at hac; rw [if_neg h2] at hou; rw [hou, hac, hhd]
    exact runD c i _ harg3 _ harg4 _ harg5 _ harg6 _ harg7 _ harg8 _ harg9 _ harg10 h0 h1 h2 _ _ _ _ _ _ _ _ E K
  · rw [if_neg h0] at hhd; rw [if_neg h1, if_neg h0] at hac; rw [if_pos h2] at hou; rw [hou, hac, hhd]
    exact runF c i _ harg3 _ harg4 _ harg5 _ harg6 _ harg7 _ harg8 _ harg9 _ harg10 h0 h1 h2 _ _ _ _ _ _ _ _ E K
  · rw [if_neg h0] at hhd; rw [if_neg h1, if_neg h0] at hac; rw [if_neg h2] at hou; rw [hou, hac, hhd]
    exact runE c i _ harg3 _ harg4 _ harg5 _ harg6 _ harg7 _ harg8 _ harg9 _ harg10 h0 h1 h2 _ _ _ _ _ _ _ _ E K

end Cert.Kernel.Down

end
-- ==== Proof.Kernel.Frame.lean ====
/- The frame of the kernel at any float values: the grid loop keeps the invariant of `Inv`, so every weakly fair
   execution terminates, the argument arrays end unchanged, and the result array is what the flushed tiles make it. -/
module

public import proofs.«01_k».proof.Proof.Kernel.Inv
public import Idealize.ShloMosaic.Lib.Claim

@[expose] public section

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: the kept array and the accumulator at contents of which the invariant's pure part holds. -/
def Inv (c : Dev nD) (n : ℕ) : sProp 𝕄 :=
  iprop(iprop((∃ d, ⌜KeptAt m c n d⌝ ∗ owns (c : Thread nD τ) scH fullShare d) ∗ (∃ a, ⌜AccAt m c n a⌝ ∗ owns (c : Thread nD τ) scA fullShare a)) ∗ (∃ r, prngReg c r))

theorem Inv_forget (c : Dev nD) (n : ℕ) : Inv m c n ⊢ Pipeline.ΦA spec0 c := by
  rw [PhiA_eq]; unfold Inv
  iintro ⟨⟨⟨%d, %hd, HS0⟩, ⟨%a, %ha, HS1⟩⟩, Hg⟩
  isplitl [HS0 HS1]
  · isplitl [HS0]
    · iexists _; iexact HS0
    iexists _; iexact HS1
  iexact Hg

theorem Inv_start (c : Dev nD) : Pipeline.ΦA spec0 c ⊢ Inv m c 0 := by
  rw [PhiA_eq]; unfold Inv
  iintro ⟨⟨⟨%d, HS0⟩, ⟨%a, HS1⟩⟩, Hg⟩
  isplitl [HS0 HS1]
  · isplitl [HS0]
    · iexists d; isplitr
      swap; · iexact HS0
      ipureintro; exact fun t h => absurd h (Nat.not_lt_zero _)
    iexists a; isplitr
    swap; · iexact HS1
    ipureintro; exact fun h => absurd rfl h
  iexact Hg

/-! ## The pipeline's proof data -/

/-- The arrays as the region finds them; after the body at a point each input's buffer at its block and the output's at
    `outN`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outN m c t.val
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outN m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem liveAt_0 (t : Fin cfg0.N) : cfg0.idle 0 (grid0.coords t) = false := rfl
theorem liveAt_1 (t : Fin cfg0.N) : cfg0.idle 1 (grid0.coords t) = false := rfl
theorem liveAt_2 (t : Fin cfg0.N) : cfg0.idle 2 (grid0.coords t) = false := rfl
theorem liveAt_3 (t : Fin cfg0.N) : cfg0.idle 3 (grid0.coords t) = false := rfl
theorem liveAt_4 (t : Fin cfg0.N) : cfg0.idle 4 (grid0.coords t) = false := rfl

/-! ## The body obligation, at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The kept array after point `t`. -/
theorem kept_after (c : Dev nD) (t : Fin cfg0.N) {d : Vec F S7x768x2048 .bf16} (h : KeptAt m c t.val d) :
    KeptAt m c (t.val + 1) (if cond0 (grid0.coords t) then slabPut d (grid0.coords t) (hdSlab (iblk m c 1 t) (iblk m c 2 t)) else d) := by
  by_cases h0 : t.val / 7 % 8 = 0
  · rw [if_pos ((hcond0 t).mpr h0)]
    have e : hdN m c t.val = hdSlab (iblk m c 1 t) (iblk m c 2 t) := by
      have hf : first t.val = t := by
        rw [show first t.val = pt t.val from congrArg pt (by omega), pt_val]
      unfold hdN; rw [hf]
    rw [← e]; exact kept_put m c t h0 h
  · rw [if_neg (fun e => h0 ((hcond0 t).mp e))]
    exact kept_step m c t h0 h

/-- The accumulator after point `t`. -/
theorem acc_after (c : Dev nD) (t : Fin cfg0.N) {d : Vec F S7x768x2048 .bf16} (h : KeptAt m c t.val d) {a : Vec F S768x512 .f32} (ha : AccAt m c t.val a) :
    accN m c t.val = k0_pay64 (wTile (iblk m c 3 t) (wsc (grid0.coords t) (iblk m c 0 t))) (if cond1 (grid0.coords t) then k0_pay63 else a)
      (if cond0 (grid0.coords t) then hdSlab (iblk m c 1 t) (iblk m c 2 t) else slabOf d (grid0.coords t)) := by
  rw [accN_eq]
  refine pay64_congr ?_ ?_ ?_
  · unfold wN; rw [pt_val]
  · by_cases h1 : t.val % 7 = 0
    · rw [if_pos h1, if_pos ((hcond1 t).mpr h1)]
    · rw [if_neg h1, if_neg (fun e => h1 ((hcond1 t).mp e))]
      exact (ha (fun e => h1 (by rw [e]))).symm
  · by_cases h0 : t.val / 7 % 8 = 0
    · rw [if_pos ((hcond0 t).mpr h0)]
      have hf : first t.val = t := by
        rw [show first t.val = pt t.val from congrArg pt (by omega), pt_val]
      unfold hdN; rw [hf]
    · rw [if_neg (fun e => h0 ((hcond0 t).mp e))]
      exact (kept_slab m c t h0 h).symm

set_option maxHeartbeats 3200000 in
/-- The body at any point: it takes the inputs' blocks and the invariant before the point, and leaves the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  have h12 : cond1 (grid0.coords t) → ¬cond2 (grid0.coords t) := fun h h' => by
    have := (hcond1 t).mp h; have := (hcond2 t).mp h'; omega
  unfold Inv
  by_cases h2 : cond2 (grid0.coords t)
  · rw [show (dats m 0 c).leavesExact 5 t = owns (c : Thread nD τ) (ms5 t) fullShare ((dats m 0 c).after 5 t) from by
      unfold Dat.leavesExact; rw [liveAt5 t h2], after_5]
    iintro ⟨⟨⟨⟨%d, %hd, HS0⟩, ⟨%a, %ha, HS1⟩⟩, Hg⟩, Ho, ⟨%d0, H0⟩, ⟨%d1, H1⟩, ⟨%d2, H2⟩, ⟨%d3, H3⟩, ⟨%d4, H4⟩, ⟨%d5, H5⟩⟩
    iapply (run c (grid0.coords t) _ (hs0 t) _ (hs1 t) _ (hs2 t) _ (hs3 t) _ (hs4 t) _ (hs5 t) _ (Memref.isWhole_whole _) _ (Memref.isWhole_whole _) (iblk m c 0 t) (iblk m c 1 t) (iblk m c 2 t) (iblk m c 3 t) (iblk m c 4 t) d a ((dats m 0 c).before 5 t d5)
      _ (accN m c t.val) (outN m c t.val) h12 rfl (acc_after m c t hd ha) (by rw [if_pos h2]; unfold outN; rw [pt_val]) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr
          swap; · iexact HS0
          ipureintro; exact kept_after m c t hd
        iexists _; isplitr
        swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 5 t (idleAt5 t h2) (noFlush5 t h2)]
    iintro ⟨⟨⟨⟨%d, %hd, HS0⟩, ⟨%a, %ha, HS1⟩⟩, Hg⟩, Ho, ⟨%d0, H0⟩, ⟨%d1, H1⟩, ⟨%d2, H2⟩, ⟨%d3, H3⟩, ⟨%d4, H4⟩, ⟨%d5, H5⟩⟩
    iapply (run c (grid0.coords t) _ (hs0 t) _ (hs1 t) _ (hs2 t) _ (hs3 t) _ (hs4 t) _ (hs5 t) _ (Memref.isWhole_whole _) _ (Memref.isWhole_whole _) (iblk m c 0 t) (iblk m c 1 t) (iblk m c 2 t) (iblk m c 3 t) (iblk m c 4 t) d a ((dats m 0 c).before 5 t d5)
      _ (accN m c t.val) ((dats m 0 c).before 5 t d5) h12 rfl (acc_after m c t hd ha) (by rw [if_neg h2]) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr
          swap; · iexact HS0
          ipureintro; exact kept_after m c t hd
        iexists _; isplitr
        swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Inv_start m c

theorem hout (c : Dev nD) : (dats m 0 c).Φ (Fin.last cfg0.N) ⊢ Pipeline.ΦA spec0 c := Inv_forget m c _

/-! ## The run and the frame -/

-- the launch theorem's implicit arguments are found by unifying its conclusion with this one, which takes unfolding plain
-- definitions in a metavariable's type
set_option backward.isDefEq.respectTransparency.types false in
/-- The launch: every array of the pipeline ends at what the proof data give, every other unscoped buffer as the region
    found it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Down

end
-- ==== Proof.KernelIdeal.Base.lean ====
/- What the run of the kernel body is stated over: its three branch conditions in closed form over the grid
   points, where the output window is idle, the staging and scratch buffers, and the body's values by name:
   the dequantised slab of h (`hdSlab`), the dequantised weight tile (`wTile`), and one accumulation step
   (`k0_pay64` of the printed skeleton). -/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions. Point `t` of the 112 is `(t / 56, t / 7 % 8, t % 7)`. -/

/-- The first condition: the column block is the first one (the slab of h is dequantised and kept). -/
abbrev cond0 (i : grid0.Coords) : Prop := k0_cond1 i = 1#1
/-- The second condition: the first step of the contraction (the accumulator is reset). -/
abbrev cond1 (i : grid0.Coords) : Prop := (Scalar.cmpi .ne (Scalar.extui (Scalar.cmpi .eq (BitVec.ofNat 32 (i 2).val) 0#32)) 0#32) = 1#1
/-- The third condition: the last step of the contraction (the output tile is written). -/
abbrev cond2 (i : grid0.Coords) : Prop := k0_cond3 i = 1#1

theorem hcond0 : ∀ t : Fin cfg0.N, cond0 (grid0.coords t) ↔ t.val / 7 % 8 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 7 % 8 := Pipeline.Grid.coords_val t 1 (by decide) rfl
    have e2 : (grid0.coords t 2).val = t.val / 1 % 7 := Pipeline.Grid.coords_val t 2 (by decide) rfl
    simp only [cond0, k0_cond1, e0, e1, e2]
    word_cmp
   : ∀ t : Fin grid0.N, cond0 (grid0.coords t) ↔ t.val / 7 % 8 = 0)

theorem hcond1 : ∀ t : Fin cfg0.N, cond1 (grid0.coords t) ↔ t.val % 7 = 0 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 7 % 8 := Pipeline.Grid.coords_val t 1 (by decide) rfl
    have e2 : (grid0.coords t 2).val = t.val / 1 % 7 := Pipeline.Grid.coords_val t 2 (by decide) rfl
    simp only [cond1, e0, e1, e2]
    word_cmp
   : ∀ t : Fin grid0.N, cond1 (grid0.coords t) ↔ t.val % 7 = 0)

theorem hcond2 : ∀ t : Fin cfg0.N, cond2 (grid0.coords t) ↔ t.val % 7 = 6 :=
  (fun t => by
    have ht : t.val < 112 := Nat.lt_of_lt_of_eq t.isLt N_0
    have e0 : (grid0.coords t 0).val = t.val / 56 % 2 := Pipeline.Grid.coords_val t 0 (by decide) rfl
    have e1 : (grid0.coords t 1).val = t.val / 7 % 8 := Pipeline.Grid.coords_val t 1 (by decide) rfl
    have e2 : (grid0.coords t 2).val = t.val / 1 % 7 := Pipeline.Grid.coords_val t 2 (by decide) rfl
    simp only [cond2, k0_cond3, e0, e1, e2]
    word_cmp
   : ∀ t : Fin grid0.N, cond2 (grid0.coords t) ↔ t.val % 7 = 6)

/-! ## Where the output window is idle -/

theorem idleAt5 : ∀ t : Fin cfg0.N, ¬cond2 (grid0.coords t) → cfg0.idle 5 (grid0.coords t) = true := by decide +kernel
theorem noFlush5 : ∀ t : Fin cfg0.N, ¬cond2 (grid0.coords t) → (cfg0.win 5).flush t = false := by decide +kernel
theorem liveAt5 : ∀ t : Fin cfg0.N, cond2 (grid0.coords t) → cfg0.idle 5 (grid0.coords t) = false := by decide +kernel

/-! ## The buffers the body is run on -/

abbrev ms0 (t : Fin cfg0.N) : Memref sig .tc .smem S112x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x768x2048 .fp8e4m3 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x768x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x512 .fp8e4m3 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768x512 .bf16 := win0_5.stage (cfg0.slots t 5)
abbrev hs5 (t : Fin cfg0.N) : (ms5 t).IsWhole := hstage0_5 ((cfg0.slots t 5).cast nbuf0_5)
/-- The scratch that keeps the dequantised slabs of h. -/
abbrev scH : Memref sig .tc .vmem S7x768x2048 .bf16 := Memref.whole cc0_scratch0
/-- The scratch that keeps the accumulator. -/
abbrev scA : Memref sig .tc .vmem S768x512 .f32 := Memref.whole cc0_scratch1

/-- The frame kit's invariant with the two scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scA fullShare d)) ∗ (∃ r, prngReg c r)) := by
  unfold Pipeline.ΦA; rw [scopedRest0_eq]; simp only [scH, scA, owns_whole]; try rfl

/-! ## The body's values by name -/

/-- One group of 128 columns of the slab of h: the codes widened, times the group's scale of each row. -/
def hdGroup (x1 : Vec F S1x768x2048 .fp8e4m3) (x2 : Vec F S1x1x768x16 .f32) (oc os : Fin 2 → ℕ)
    (hc : S768x2048.Slices oc S768x128) (hs : S768x16.Slices os S768x1) : FVec F S768x128 .bf16 :=
  mulf (extf .bf16 (extractStridedSlice S768x128 oc (shapeCast S768x2048 x1 shapeCasts_S1x768x2048_S768x2048) hc) bitsLt_fp8e4m3_bf16)
    (truncf .bf16 (broadcastTo S768x128 (shapeCast S768x1 (extractStridedSlice S768x1 os (shapeCast S768x16 x2 shapeCasts_S1x1x768x16_S768x16) hs) shapeCasts_S768x1_S768x1) broadcasts_S768x1_S768x128) bitsLt_bf16_f32)

/-- The dequantised slab of h: its 16 groups side by side. -/
def hdSlab (x1 : Vec F S1x768x2048 .fp8e4m3) (x2 : Vec F S1x1x768x16 .f32) : FVec F S1x768x2048 .bf16 :=
  shapeCast S1x768x2048 (concatenate S768x2048 1 [
    ⟨S768x128, hdGroup x1 x2 ![0, 0] ![0, 0] slices_S768x2048_o0_0_S768x128 slices_S768x16_o0_0_S768x1⟩,
    ⟨S768x128, hdGroup x1 x2 ![0, 128] ![0, 1] slices_S768x2048_o0_128_S768x128 slices_S768x16_o0_1_S768x1⟩,
    ⟨S768x128, hdGroup x1 x2 ![0, 256] ![0, 2] slices_S768x2048_o0_256_S768x128 slices_S768x16_o0_2_S768x1⟩,
    ⟨S768x128, hdGroup x1 x2 ![0, 384] ![0, 3] slices_S768x2048_o0_384_S768x128 slices_S768x16_o0_3_S768x1⟩,
    ⟨S768x128, hdGroup x1 x2 ![0, 512] ![0, 4] slices_S768x2048_o0_512_S768x128 slices_S768x16_o0_4_S768x1⟩,
    ⟨S768x128, hdGroup x1 x2 ![0, 640] ![0, 5] slices_S768x2048_o0_640_S768x128 slices_S768x16_o0_5_S768x1⟩,
    ⟨S768x128, hdGroup x1 x2 ![0, 768] ![0, 6] slices_S768x2048_o0_768_S768x128 slices_S768x16_o0_6_S768x1⟩,
    ⟨S768x128, hdGroup x1 x2 ![0, 896] ![0, 7] slices_S768x2048_o0_896_S768x128 slices_S768x16_o0_7_S768x1⟩,
    ⟨S768x128, hdGroup x1 x2 ![0, 1024] ![0, 8] slices_S768x2048_o0_1024_S768x128 slices_S768x16_o0_8_S768x1⟩,
    ⟨S768x128, hdGroup x1 x2 ![0, 1152] ![0, 9] slices_S768x2048_o0_1152_S768x128 slices_S768x16_o0_9_S768x1⟩,
    ⟨S768x128, hdGroup x1 x2 ![0, 1280] ![0, 10] slices_S768x2048_o0_1280_S768x128 slices_S768x16_o0_10_S768x1⟩,
    ⟨S768x128, hdGroup x1 x2 ![0, 1408] ![0, 11] slices_S768x2048_o0_1408_S768x128 slices_S768x16_o0_11_S768x1⟩,
    ⟨S768x128, hdGroup x1 x2 ![0, 1536] ![0, 12] slices_S768x2048_o0_1536_S768x128 slices_S768x16_o0_12_S768x1⟩,
    ⟨S768x128, hdGroup x1 x2 ![0, 1664] ![0, 13] slices_S768x2048_o0_1664_S768x128 slices_S768x16_o0_13_S768x1⟩,
    ⟨S768x128, hdGroup x1 x2 ![0, 1792] ![0, 14] slices_S768x2048_o0_1792_S768x128 slices_S768x16_o0_14_S768x1⟩,
    ⟨S768x128, hdGroup x1 x2 ![0, 1920] ![0, 15] slices_S768x2048_o0_1920_S768x128 slices_S768x16_o0_15_S768x1⟩] concatenates_S768x128_S768x128_S768x128_S768x128_S768x128_S768x128_S768x128_S768x128_S768x128_S768x128_S768x128_S768x128_S768x128_S768x128_S768x128_S768x128_S768x2048_d1) shapeCasts_S768x2048_S1x768x2048

/-- One 128×128 tile of the weight: the codes widened, times the tile's scale. -/
def wSub (x3 : Vec F S2048x512 .fp8e4m3) (s : Elt F .f32) (o : Fin 2 → ℕ) (h : S2048x512.Slices o S128x128) : FVec F S128x128 .bf16 :=
  mulf (extf .bf16 (extractStridedSlice S128x128 o x3 h) bitsLt_fp8e4m3_bf16) (truncf .bf16 (broadcast S128x128 s) bitsLt_bf16_f32)

/-- The dequantised weight tile: 16 rows of four 128×128 tiles, from the codes and the tiles' scales. -/
def wTile (x3 : Vec F S2048x512 .fp8e4m3) (s : Fin 16 → Fin 4 → Elt F .f32) : FVec F S2048x512 .bf16 :=
  concatenate S2048x512 0 [
    ⟨S128x512, concatenate S128x512 1 [⟨S128x128, wSub x3 (s 0 0) ![0, 0] slices_S2048x512_o0_0_S128x128⟩, ⟨S128x128, wSub x3 (s 0 1) ![0, 128] slices_S2048x512_o0_128_S128x128⟩, ⟨S128x128, wSub x3 (s 0 2) ![0, 256] slices_S2048x512_o0_256_S128x128⟩, ⟨S128x128, wSub x3 (s 0 3) ![0, 384] slices_S2048x512_o0_384_S128x128⟩] concatenates_S128x128_S128x128_S128x128_S128x128_S128x512_d1⟩,
    ⟨S128x512, concatenate S128x512 1 [⟨S128x128, wSub x3 (s 1 0) ![128, 0] slices_S2048x512_o128_0_S128x128⟩, ⟨S128x128, wSub x3 (s 1 1) ![128, 128] slices_S2048x512_o128_128_S128x128⟩, ⟨S128x128, wSub x3 (s 1 2) ![128, 256] slices_S2048x512_o128_256_S128x128⟩, ⟨S128x128, wSub x3 (s 1 3) ![128, 384] slices_S2048x512_o128_384_S128x128⟩] concatenates_S128x128_S128x128_S128x128_S128x128_S128x512_d1⟩,
    ⟨S128x512, concatenate S128x512 1 [⟨S128x128, wSub x3 (s 2 0) ![256, 0] slices_S2048x512_o256_0_S128x128⟩, ⟨S128x128, wSub x3 (s 2 1) ![256, 128] slices_S2048x512_o256_128_S128x128⟩, ⟨S128x128, wSub x3 (s 2 2) ![256, 256] slices_S2048x512_o256_256_S128x128⟩, ⟨S128x128, wSub x3 (s 2 3) ![256, 384] slices_S2048x512_o256_384_S128x128⟩] concatenates_S128x128_S128x128_S128x128_S128x128_S128x512_d1⟩,
    ⟨S128x512, concatenate S128x512 1 [⟨S128x128, wSub x3 (s 3 0) ![384, 0] slices_S2048x512_o384_0_S128x128⟩, ⟨S128x128, wSub x3 (s 3 1) ![384, 128] slices_S2048x512_o384_128_S128x128⟩, ⟨S128x128, wSub x3 (s 3 2) ![384, 256] slices_S2048x512_o384_256_S128x128⟩, ⟨S128x128, wSub x3 (s 3 3) ![384, 384] slices_S2048x512_o384_384_S128x128⟩] concatenates_S128x128_S128x128_S128x128_S128x128_S128x512_d1⟩,
    ⟨S128x512, concatenate S128x512 1 [⟨S128x128, wSub x3 (s 4 0) ![512, 0] slices_S2048x512_o512_0_S128x128⟩, ⟨S128x128, wSub x3 (s 4 1) ![512, 128] slices_S2048x512_o512_128_S128x128⟩, ⟨S128x128, wSub x3 (s 4 2) ![512, 256] slices_S2048x512_o512_256_S128x128⟩, ⟨S128x128, wSub x3 (s 4 3) ![512, 384] slices_S2048x512_o512_384_S128x128⟩] concatenates_S128x128_S128x128_S128x128_S128x128_S128x512_d1⟩,
    ⟨S128x512, concatenate S128x512 1 [⟨S128x128, wSub x3 (s 5 0) ![640, 0] slices_S2048x512_o640_0_S128x128⟩, ⟨S128x128, wSub x3 (s 5 1) ![640, 128] slices_S2048x512_o640_128_S128x128⟩, ⟨S128x128, wSub x3 (s 5 2) ![640, 256] slices_S2048x512_o640_256_S128x128⟩, ⟨S128x128, wSub x3 (s 5 3) ![640, 384] slices_S2048x512_o640_384_S128x128⟩] concatenates_S128x128_S128x128_S128x128_S128x128_S128x512_d1⟩,
    ⟨S128x512, concatenate S128x512 1 [⟨S128x128, wSub x3 (s 6 0) ![768, 0] slices_S2048x512_o768_0_S128x128⟩, ⟨S128x128, wSub x3 (s 6 1) ![768, 128] slices_S2048x512_o768_128_S128x128⟩, ⟨S128x128, wSub x3 (s 6 2) ![768, 256] slices_S2048x512_o768_256_S128x128⟩, ⟨S128x128, wSub x3 (s 6 3) ![768, 384] slices_S2048x512_o768_384_S128x128⟩] concatenates_S128x128_S128x128_S128x128_S128x128_S128x512_d1⟩,
    ⟨S128x512, concatenate S128x512 1 [⟨S128x128, wSub x3 (s 7 0) ![896, 0] slices_S2048x512_o896_0_S128x128⟩, ⟨S128x128, wSub x3 (s 7 1) ![896, 128] slices_S2048x512_o896_128_S128x128⟩, ⟨S128x128, wSub x3 (s 7 2) ![896, 256] slices_S2048x512_o896_256_S128x128⟩, ⟨S128x128, wSub x3 (s 7 3) ![896, 384] slices_S2048x512_o896_384_S128x128⟩] concatenates_S128x128_S128x128_S128x128_S128x128_S128x512_d1⟩,
    ⟨S128x512, concatenate S128x512 1 [⟨S128x128, wSub x3 (s 8 0) ![1024, 0] slices_S2048x512_o1024_0_S128x128⟩, ⟨S128x128, wSub x3 (s 8 1) ![1024, 128] slices_S2048x512_o1024_128_S128x128⟩, ⟨S128x128, wSub x3 (s 8 2) ![1024, 256] slices_S2048x512_o1024_256_S128x128⟩, ⟨S128x128, wSub x3 (s 8 3) ![1024, 384] slices_S2048x512_o1024_384_S128x128⟩] concatenates_S128x128_S128x128_S128x128_S128x128_S128x512_d1⟩,
    ⟨S128x512, concatenate S128x512 1 [⟨S128x128, wSub x3 (s 9 0) ![1152, 0] slices_S2048x512_o1152_0_S128x128⟩, ⟨S128x128, wSub x3 (s 9 1) ![1152, 128] slices_S2048x512_o1152_128_S128x128⟩, ⟨S128x128, wSub x3 (s 9 2) ![1152, 256] slices_S2048x512_o1152_256_S128x128⟩, ⟨S128x128, wSub x3 (s 9 3) ![1152, 384] slices_S2048x512_o1152_384_S128x128⟩] concatenates_S128x128_S128x128_S128x128_S128x128_S128x512_d1⟩,
    ⟨S128x512, concatenate S128x512 1 [⟨S128x128, wSub x3 (s 10 0) ![1280, 0] slices_S2048x512_o1280_0_S128x128⟩, ⟨S128x128, wSub x3 (s 10 1) ![1280, 128] slices_S2048x512_o1280_128_S128x128⟩, ⟨S128x128, wSub x3 (s 10 2) ![1280, 256] slices_S2048x512_o1280_256_S128x128⟩, ⟨S128x128, wSub x3 (s 10 3) ![1280, 384] slices_S2048x512_o1280_384_S128x128⟩] concatenates_S128x128_S128x128_S128x128_S128x128_S128x512_d1⟩,
    ⟨S128x512, concatenate S128x512 1 [⟨S128x128, wSub x3 (s 11 0) ![1408, 0] slices_S2048x512_o1408_0_S128x128⟩, ⟨S128x128, wSub x3 (s 11 1) ![1408, 128] slices_S2048x512_o1408_128_S128x128⟩, ⟨S128x128, wSub x3 (s 11 2) ![1408, 256] slices_S2048x512_o1408_256_S128x128⟩, ⟨S128x128, wSub x3 (s 11 3) ![1408, 384] slices_S2048x512_o1408_384_S128x128⟩] concatenates_S128x128_S128x128_S128x128_S128x128_S128x512_d1⟩,
    ⟨S128x512, concatenate S128x512 1 [⟨S128x128, wSub x3 (s 12 0) ![1536, 0] slices_S2048x512_o1536_0_S128x128⟩, ⟨S128x128, wSub x3 (s 12 1) ![1536, 128] slices_S2048x512_o1536_128_S128x128⟩, ⟨S128x128, wSub x3 (s 12 2) ![1536, 256] slices_S2048x512_o1536_256_S128x128⟩, ⟨S128x128, wSub x3 (s 12 3) ![1536, 384] slices_S2048x512_o1536_384_S128x128⟩] concatenates_S128x128_S128x128_S128x128_S128x128_S128x512_d1⟩,
    ⟨S128x512, concatenate S128x512 1 [⟨S128x128, wSub x3 (s 13 0) ![1664, 0] slices_S2048x512_o1664_0_S128x128⟩, ⟨S128x128, wSub x3 (s 13 1) ![1664, 128] slices_S2048x512_o1664_128_S128x128⟩, ⟨S128x128, wSub x3 (s 13 2) ![1664, 256] slices_S2048x512_o1664_256_S128x128⟩, ⟨S128x128, wSub x3 (s 13 3) ![1664, 384] slices_S2048x512_o1664_384_S128x128⟩] concatenates_S128x128_S128x128_S128x128_S128x128_S128x512_d1⟩,
    ⟨S128x512, concatenate S128x512 1 [⟨S128x128, wSub x3 (s 14 0) ![1792, 0] slices_S2048x512_o1792_0_S128x128⟩, ⟨S128x128, wSub x3 (s 14 1) ![1792, 128] slices_S2048x512_o1792_128_S128x128⟩, ⟨S128x128, wSub x3 (s 14 2) ![1792, 256] slices_S2048x512_o1792_256_S128x128⟩, ⟨S128x128, wSub x3 (s 14 3) ![1792, 384] slices_S2048x512_o1792_384_S128x128⟩] concatenates_S128x128_S128x128_S128x128_S128x128_S128x512_d1⟩,
    ⟨S128x512, concatenate S128x512 1 [⟨S128x128, wSub x3 (s 15 0) ![1920, 0] slices_S2048x512_o1920_0_S128x128⟩, ⟨S128x128, wSub x3 (s 15 1) ![1920, 128] slices_S2048x512_o1920_128_S128x128⟩, ⟨S128x128, wSub x3 (s 15 2) ![1920, 256] slices_S2048x512_o1920_256_S128x128⟩, ⟨S128x128, wSub x3 (s 15 3) ![1920, 384] slices_S2048x512_o1920_384_S128x128⟩] concatenates_S128x128_S128x128_S128x128_S128x128_S128x512_d1⟩] concatenates_S128x512_S128x512_S128x512_S128x512_S128x512_S128x512_S128x512_S128x512_S128x512_S128x512_S128x512_S128x512_S128x512_S128x512_S128x512_S128x512_S2048x512_d0

/-- The tiles' scales at a point: the words of the scale table the body reads. -/
def wsc (i : grid0.Coords) (x0 : Vec F S112x32 .f32) : Fin 16 → Fin 4 → Elt F .f32 := fun a b =>
  x0 ((Rect.unit (s := S112x32) (k0_off2 i (BitVec.ofNat 32 a.val) (BitVec.ofNat 32 b.val)) S1x1.size (k0_off2_inb i a b)).toLoadRect.idx
    (Shape.Idx.first (show 0 < S1x1.numel by decide)))

/-- The slab of the kept array that the point's step reads. -/
def slabOf (d : Vec F S7x768x2048 .bf16) (i : grid0.Coords) : Vec F S1x768x2048 .bf16 :=
  VecWindow.window d (k0_off3 i) S1x768x2048.size (k0_off3_inb i)

/-- The kept array with the point's slab replaced. -/
def slabPut (d : Vec F S7x768x2048 .bf16) (i : grid0.Coords) (w : Vec F S1x768x2048 .bf16) : Vec F S7x768x2048 .bf16 :=
  VecWindow.put d (k0_off3 i) S1x768x2048.size w

/-! ## What the body's loads read -/

theorem pay64_congr {w w' : FVec F S2048x512 .bf16} {a a' : Vec F S768x512 .f32} {h h' : Vec F S1x768x2048 .bf16}
    (ew : w = w') (ea : a = a') (eh : h = h') : k0_pay64 w a h = k0_pay64 w' a' h' := by subst ew ea eh; rfl

theorem pay1_congr {x x' : Vec F S1x768x512 .bf16} {a a' : Vec F S768x512 .f32}
    (ex : x = x') (ea : a = a') : k0_pay1 x a = k0_pay1 x' a' := by subst ex ea; rfl

/-- A load of a whole memref held at contents that read `x` reads `x`. -/
theorem load_whole {sp : Space} {s : Shape} {e : EltTy} {M : Memref sig .tc sp s e} (h : M.IsWhole) (x : Vec F s e)
    {off : Fin s.rank → ℕ} (inb : ∀ a, off a + s.size a ≤ s.size a) :
    View.readAt (Elt F) M.view (Rect.unit off s.size inb).toLoadRect (h.unread x) = x :=
  (View.readAt_full M.view _ inb).trans (h.read_unread x)

theorem wTile_read {arg3 : Memref sig .tc .smem S112x32 .f32} (harg3 : arg3.IsWhole) {arg6 : Memref sig .tc .vmem S2048x512 .fp8e4m3} (harg6 : arg6.IsWhole)
    (i : grid0.Coords) (x0 : Vec F S112x32 .f32) (x3 : Vec F S2048x512 .fp8e4m3) :
    wTile (View.readAt (Elt F) arg6.view (Rect.unit (s := S2048x512) ![0, 0] S2048x512.size inb_S2048x512_S2048x512_0_0).toLoadRect (harg6.unread x3))
      (fun a b => View.readAt (Elt F) arg3.view (Rect.unit (s := S112x32) (k0_off2 i (BitVec.ofNat 32 a.val) (BitVec.ofNat 32 b.val)) S1x1.size (k0_off2_inb i a b)).toLoadRect (harg3.unread x0)
        (Shape.Idx.first (show 0 < S1x1.numel by decide)))
      = wTile x3 (wsc i x0) := by
  have e : (fun (a : Fin 16) (b : Fin 4) => View.readAt (Elt F) arg3.view (Rect.unit (s := S112x32) (k0_off2 i (BitVec.ofNat 32 a.val) (BitVec.ofNat 32 b.val)) S1x1.size (k0_off2_inb i a b)).toLoadRect (harg3.unread x0)
        (Shape.Idx.first (show 0 < S1x1.numel by decide))) = wsc i x0 := by
    funext a b; exact harg3.readAt_unread x0 _ _
  rw [load_whole harg6 x3, e]

theorem slab_read {arg9 : Memref sig .tc .vmem S7x768x2048 .bf16} (harg9 : arg9.IsWhole) (d : Vec F S7x768x2048 .bf16) (i : grid0.Coords) :
    View.readAt (Elt F) arg9.view (Rect.unit (s := S7x768x2048) (k0_off3 i) S1x768x2048.size (k0_off3_inb i)).toLoadRect (harg9.unread d) = slabOf d i :=
  (View.readAt_unit arg9.view _ _ rfl (k0_off3_inb i)).trans (congrArg (fun d => slabOf d i) (harg9.read_unread d))

theorem hdSlab_read {arg4 : Memref sig .tc .vmem S1x768x2048 .fp8e4m3} (harg4 : arg4.IsWhole) {arg5 : Memref sig .tc .vmem S1x1x768x16 .f32} (harg5 : arg5.IsWhole)
    (x1 : Vec F S1x768x2048 .fp8e4m3) (x2 : Vec F S1x1x768x16 .f32) :
    hdSlab (View.readAt (Elt F) arg4.view (Rect.unit (s := S1x768x2048) ![0, 0, 0] S1x768x2048.size inb_S1x768x2048_S1x768x2048_0_0_0).toLoadRect (harg4.unread x1))
      (View.readAt (Elt F) arg5.view (Rect.unit (s := S1x1x768x16) ![0, 0, 0, 0] S1x1x768x16.size inb_S1x1x768x16_S1x1x768x16_0_0_0_0).toLoadRect (harg5.unread x2))
      = hdSlab x1 x2 := by
  rw [load_whole harg4 x1, load_whole harg5 x2]

/-- What the store of the slab leaves in the kept array. -/
theorem slab_store {arg4 : Memref sig .tc .vmem S1x768x2048 .fp8e4m3} (harg4 : arg4.IsWhole) {arg5 : Memref sig .tc .vmem S1x1x768x16 .f32} (harg5 : arg5.IsWhole)
    {arg9 : Memref sig .tc .vmem S7x768x2048 .bf16} (harg9 : arg9.IsWhole) (i : grid0.Coords) (inb : ∀ a, k0_off1 i a + S1x768x2048.size a ≤ S7x768x2048.size a)
    (x1 : Vec F S1x768x2048 .fp8e4m3) (x2 : Vec F S1x1x768x16 .f32) (d : Vec F S7x768x2048 .bf16) :
    View.read (Elt F) arg9.view (arg9.view.writes (Elt F) (harg9.unread d)
      [(⟨Rect.unit (s := S7x768x2048) (k0_off1 i) S1x768x2048.size inb, hdSlab (View.readAt (Elt F) arg4.view (Rect.unit (s := S1x768x2048) ![0, 0, 0] S1x768x2048.size inb_S1x768x2048_S1x768x2048_0_0_0).toLoadRect (harg4.unread x1))
        (View.readAt (Elt F) arg5.view (Rect.unit (s := S1x1x768x16) ![0, 0, 0, 0] S1x1x768x16.size inb_S1x1x768x16_S1x1x768x16_0_0_0_0).toLoadRect (harg5.unread x2))⟩ : View.Piece (Elt F) S7x768x2048 .bf16)])
      = slabPut d i (hdSlab x1 x2) := by
  refine (View.read_writes_cons_put arg9.view _ inb _ [] rfl).trans ?_
  rw [hdSlab_read harg4 harg5, View.writes_nil, harg9.read_unread d]
  rfl

/-- The slab read back at the point that stored it. -/
theorem slab_reload {arg4 : Memref sig .tc .vmem S1x768x2048 .fp8e4m3} (harg4 : arg4.IsWhole) {arg5 : Memref sig .tc .vmem S1x1x768x16 .f32} (harg5 : arg5.IsWhole)
    (arg9 : Memref sig .tc .vmem S7x768x2048 .bf16) (i : grid0.Coords) (inb : ∀ a, k0_off1 i a + S1x768x2048.size a ≤ S7x768x2048.size a)
    (x1 : Vec F S1x768x2048 .fp8e4m3) (x2 : Vec F S1x1x768x16 .f32) :
    View.readCov (Val := Elt F) arg9.view
      [(⟨Rect.unit (s := S7x768x2048) (k0_off1 i) S1x768x2048.size inb, hdSlab (View.readAt (Elt F) arg4.view (Rect.unit (s := S1x768x2048) ![0, 0, 0] S1x768x2048.size inb_S1x768x2048_S1x768x2048_0_0_0).toLoadRect (harg4.unread x1))
        (View.readAt (Elt F) arg5.view (Rect.unit (s := S1x1x768x16) ![0, 0, 0, 0] S1x1x768x16.size inb_S1x1x768x16_S1x1x768x16_0_0_0_0).toLoadRect (harg5.unread x2))⟩ : View.Piece (Elt F) S7x768x2048 .bf16)]
      (Rect.unit (s := S7x768x2048) (k0_off3 i) S1x768x2048.size (k0_off3_inb i)).toLoadRect
      = hdSlab x1 x2 :=
  (View.readCov_cons_toLoadRect arg9.view (Rect.unit (s := S7x768x2048) (k0_off1 i) S1x768x2048.size inb) _ []).trans (hdSlab_read harg4 harg5 x1 x2)

/-- The accumulator read back after a whole store. -/
theorem acc_reload (arg10 : Memref sig .tc .vmem S768x512 .f32) (w : Vec F S768x512 .f32) (L : List (View.Piece (Elt F) S768x512 .f32)) :
    View.readCov (Val := Elt F) arg10.view ((⟨Rect.unit (s := S768x512) ![0, 0] S768x512.size inb_S768x512_S768x512_0_0, w⟩ : View.Piece (Elt F) S768x512 .f32) :: L)
      (Rect.unit (s := S768x512) ![0, 0] S768x512.size inb_S768x512_S768x512_0_0).toLoadRect = w :=
  View.readCov_full arg10.view inb_S768x512_S768x512_0_0 inb_S768x512_S768x512_0_0 w L

/-- What a whole store leaves in the accumulator. -/
theorem acc_store (arg10 : Memref sig .tc .vmem S768x512 .f32) (f : arg10.view.ty.Contents (Elt F)) (w : Vec F S768x512 .f32) (L : List (View.Piece (Elt F) S768x512 .f32)) :
    View.read (Elt F) arg10.view (arg10.view.writes (Elt F) f ((⟨Rect.unit (s := S768x512) ![0, 0] S768x512.size inb_S768x512_S768x512_0_0, w⟩ : View.Piece (Elt F) S768x512 .f32) :: L)) = w :=
  View.read_writes_full arg10.view f inb_S768x512_S768x512_0_0 w L

/-- What a whole store leaves in the output tile. -/
theorem out_store (arg8 : Memref sig .tc .vmem S1x768x512 .bf16) (f : arg8.view.ty.Contents (Elt F)) (w : Vec F S1x768x512 .bf16) (L : List (View.Piece (Elt F) S1x768x512 .bf16)) :
    View.read (Elt F) arg8.view (arg8.view.writes (Elt F) f ((⟨Rect.unit (s := S1x768x512) ![0, 0, 0] S1x768x512.size inb_S1x768x512_S1x768x512_0_0_0, w⟩ : View.Piece (Elt F) S1x768x512 .bf16) :: L)) = w :=
  View.read_writes_full arg8.view f inb_S1x768x512_S1x768x512_0_0_0 w L

end Cert.KernelIdeal.Down

end
-- ==== Proof.KernelIdeal.RunA.lean ====
/- The run of the kernel body in one of its six cases: the first column block: the slab of h is dequantised and kept, the first step of the contraction.
   On whole staging memrefs at given contents the body ends with the inputs as they were and the scratch and output
   buffers at the named values. -/
module

public import proofs.«01_k».proof.Proof.KernelIdeal.Base

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runA (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : cond0 i) (hc1 : cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (slabPut xs0 i (hdSlab x1 x2))
                ∗ owns (c : Thread nD τ) arg10 fullShare (k0_pay64 (wTile x3 (wsc i x0)) k0_pay63 (hdSlab x1 x2))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact slab_store harg4 harg5 harg9 i (k0_off1_inb i hc0) x1 x2 xs0
      iexact HS0
    iexists _; isplitr
    rotate_left
    · iexact HS1
    ipureintro; exact (acc_store arg10 _ _ _).trans (pay64_congr (wTile_read harg3 harg6 i x0 x3) (acc_reload arg10 k0_pay63 []) (slab_reload harg4 harg5 arg9 i (k0_off1_inb i hc0) x1 x2))

end Cert.KernelIdeal.Down

end
-- ==== Proof.KernelIdeal.RunB.lean ====
/- The run of the kernel body in one of its six cases: the first column block: the slab of h is dequantised and kept, a middle step of the contraction.
   On whole staging memrefs at given contents the body ends with the inputs as they were and the scratch and output
   buffers at the named values. -/
module

public import proofs.«01_k».proof.Proof.KernelIdeal.RunA

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runB (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : cond0 i) (hc1 : ¬cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (slabPut xs0 i (hdSlab x1 x2))
                ∗ owns (c : Thread nD τ) arg10 fullShare (k0_pay64 (wTile x3 (wsc i x0)) xs1 (hdSlab x1 x2))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact slab_store harg4 harg5 harg9 i (k0_off1_inb i hc0) x1 x2 xs0
      iexact HS0
    iexists _; isplitr
    rotate_left
    · iexact HS1
    ipureintro; exact (acc_store arg10 _ _ _).trans (pay64_congr (wTile_read harg3 harg6 i x0 x3) (load_whole harg10 xs1 inb_S768x512_S768x512_0_0) (slab_reload harg4 harg5 arg9 i (k0_off1_inb i hc0) x1 x2))

end Cert.KernelIdeal.Down

end
-- ==== Proof.KernelIdeal.RunC.lean ====
/- The run of the kernel body in one of its six cases: the first column block: the slab of h is dequantised and kept, the last step of the contraction, where the output tile is written.
   On whole staging memrefs at given contents the body ends with the inputs as they were and the scratch and output
   buffers at the named values. -/
module

public import proofs.«01_k».proof.Proof.KernelIdeal.RunB

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runC (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : cond0 i) (hc1 : ¬cond1 i) (hc2 : cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare (k0_pay1 x4 (k0_pay64 (wTile x3 (wsc i x0)) xs1 (hdSlab x1 x2)))
                ∗ owns (c : Thread nD τ) arg9 fullShare (slabPut xs0 i (hdSlab x1 x2))
                ∗ owns (c : Thread nD τ) arg10 fullShare (k0_pay64 (wTile x3 (wsc i x0)) xs1 (hdSlab x1 x2))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      rotate_left
      · iexact H5
      ipureintro; exact (out_store arg8 _ _ _).trans (pay1_congr (load_whole harg7 x4 inb_S1x768x512_S1x768x512_0_0_0) ((acc_reload arg10 _ _).trans (pay64_congr (wTile_read harg3 harg6 i x0 x3) (load_whole harg10 xs1 inb_S768x512_S768x512_0_0) (slab_reload harg4 harg5 arg9 i (k0_off1_inb i hc0) x1 x2))))
    isplitl [HS0]
    · iexists _; isplitr; · ipureintro; exact slab_store harg4 harg5 harg9 i (k0_off1_inb i hc0) x1 x2 xs0
      iexact HS0
    iexists _; isplitr
    rotate_left
    · iexact HS1
    ipureintro; exact (acc_store arg10 _ _ _).trans (pay64_congr (wTile_read harg3 harg6 i x0 x3) (load_whole harg10 xs1 inb_S768x512_S768x512_0_0) (slab_reload harg4 harg5 arg9 i (k0_off1_inb i hc0) x1 x2))

end Cert.KernelIdeal.Down

end
-- ==== Proof.KernelIdeal.RunD.lean ====
/- The run of the kernel body in one of its six cases: a later column block: the kept slab of h is read, the first step of the contraction.
   On whole staging memrefs at given contents the body ends with the inputs as they were and the scratch and output
   buffers at the named values. -/
module

public import proofs.«01_k».proof.Proof.KernelIdeal.RunC

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runD (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : ¬cond0 i) (hc1 : cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (xs0)
                ∗ owns (c : Thread nD τ) arg10 fullShare (k0_pay64 (wTile x3 (wsc i x0)) k0_pay63 (slabOf xs0 i))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; isplitr
    rotate_left
    · iexact HS1
    ipureintro; exact (acc_store arg10 _ _ _).trans (pay64_congr (wTile_read harg3 harg6 i x0 x3) (acc_reload arg10 k0_pay63 []) (slab_read harg9 xs0 i))

end Cert.KernelIdeal.Down

end
-- ==== Proof.KernelIdeal.RunE.lean ====
/- The run of the kernel body in one of its six cases: a later column block: the kept slab of h is read, a middle step of the contraction.
   On whole staging memrefs at given contents the body ends with the inputs as they were and the scratch and output
   buffers at the named values. -/
module

public import proofs.«01_k».proof.Proof.KernelIdeal.RunD

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runE (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : ¬cond0 i) (hc1 : ¬cond1 i) (hc2 : ¬cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare xi5
                ∗ owns (c : Thread nD τ) arg9 fullShare (xs0)
                ∗ owns (c : Thread nD τ) arg10 fullShare (k0_pay64 (wTile x3 (wsc i x0)) xs1 (slabOf xs0 i))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    iexists _; isplitr
    rotate_left
    · iexact HS1
    ipureintro; exact (acc_store arg10 _ _ _).trans (pay64_congr (wTile_read harg3 harg6 i x0 x3) (load_whole harg10 xs1 inb_S768x512_S768x512_0_0) (slab_read harg9 xs0 i))

end Cert.KernelIdeal.Down

end
-- ==== Proof.KernelIdeal.RunF.lean ====
/- The run of the kernel body in one of its six cases: a later column block: the kept slab of h is read, the last step of the contraction, where the output tile is written.
   On whole staging memrefs at given contents the body ends with the inputs as they were and the scratch and output
   buffers at the named values. -/
module

public import proofs.«01_k».proof.Proof.KernelIdeal.RunE

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
theorem runF (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (hc0 : ¬cond0 i) (hc1 : ¬cond1 i) (hc2 : cond2 i)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare (k0_pay1 x4 (k0_pay64 (wTile x3 (wsc i x0)) xs1 (slabOf xs0 i)))
                ∗ owns (c : Thread nD τ) arg9 fullShare (xs0)
                ∗ owns (c : Thread nD τ) arg10 fullShare (k0_pay64 (wTile x3 (wsc i x0)) xs1 (slabOf xs0 i))) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
    simp only [cc0_down_eq_skeleton]; unfold cc0_down_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      rotate_left
      · iexact H5
      ipureintro; exact (out_store arg8 _ _ _).trans (pay1_congr (load_whole harg7 x4 inb_S1x768x512_S1x768x512_0_0_0) ((acc_reload arg10 _ _).trans (pay64_congr (wTile_read harg3 harg6 i x0 x3) (load_whole harg10 xs1 inb_S768x512_S768x512_0_0) (slab_read harg9 xs0 i))))
    isplitl [HS0]
    · iexists _; isplitr; · ipureintro; exact harg9.read_unread _
      iexact HS0
    iexists _; isplitr
    rotate_left
    · iexact HS1
    ipureintro; exact (acc_store arg10 _ _ _).trans (pay64_congr (wTile_read harg3 harg6 i x0 x3) (load_whole harg10 xs1 inb_S768x512_S768x512_0_0) (slab_read harg9 xs0 i))

end Cert.KernelIdeal.Down

end
-- ==== Proof.KernelIdeal.Inv.lean ====
/- The invariant of the grid loop, and the body's six cases put together.

   Before point `n` of the 112 (in the order image `m`, column block `n`, step `k`):
   * the accumulator holds `accN` of the point before: the sum so far of the products of its column block;
   * every point already done for the same image has its dequantised slab of h in the kept array. -/
module

public import proofs.«01_k».proof.Proof.KernelIdeal.RunF

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values along the grid -/

/-- The grid point of a number (numbers past the last wrap round). -/
def pt (n : ℕ) : Fin cfg0.N := ⟨n % cfg0.N, Nat.mod_lt _ (by rw [show cfg0.N = 112 from N_0]; decide)⟩

theorem pt_val (t : Fin cfg0.N) : pt t.val = t := Fin.ext (Nat.mod_eq_of_lt t.isLt)
theorem pt_val_of_lt {n : ℕ} (h : n < 112) : (pt n).val = n := Nat.mod_eq_of_lt (by rw [show cfg0.N = 112 from N_0]; exact h)

/-- The point of the first column block with the image and the step of point `n`: where the step's slab is dequantised. -/
def first (n : ℕ) : Fin cfg0.N := pt (n / 56 * 56 + n % 7)

/-- The dequantised slab of h that point `n` multiplies by. -/
def hdN (c : Dev nD) (n : ℕ) : FVec F S1x768x2048 .bf16 := hdSlab (iblk m c 1 (first n)) (iblk m c 2 (first n))

/-- The dequantised weight tile of point `n`. -/
def wN (c : Dev nD) (n : ℕ) : FVec F S2048x512 .bf16 := wTile (iblk m c 3 (pt n)) (wsc (grid0.coords (pt n)) (iblk m c 0 (pt n)))

/-- The accumulator after point `n`. -/
def accN (c : Dev nD) : ℕ → Vec F S768x512 .f32
  | 0 => k0_pay64 (wN m c 0) k0_pay63 (hdN m c 0)
  | n + 1 => k0_pay64 (wN m c (n + 1)) (if (n + 1) % 7 = 0 then k0_pay63 else accN c n) (hdN m c (n + 1))

/-- The accumulator after point `n`, from the one before. -/
theorem accN_eq (c : Dev nD) (n : ℕ) :
    accN m c n = k0_pay64 (wN m c n) (if n % 7 = 0 then k0_pay63 else accN m c (n - 1)) (hdN m c n) := by
  cases n with
  | zero => rfl
  | succ n => rfl

/-- The output tile written at point `n` (if it is the last step of its column block). -/
def outN (c : Dev nD) (n : ℕ) : Vec F S1x768x512 .bf16 := k0_pay1 (iblk m c 4 (pt n)) (accN m c n)

theorem hdN_congr (c : Dev nD) {n n' : ℕ} (h1 : n / 56 = n' / 56) (h2 : n % 7 = n' % 7) : hdN m c n = hdN m c n' := by
  unfold hdN first; rw [h1, h2]

/-! ## The invariant's pure part -/

/-- Before point `n`: the points already done for the image have their slab in the kept array. -/
def KeptAt (c : Dev nD) (n : ℕ) (d : Vec F S7x768x2048 .bf16) : Prop :=
  ∀ t : Fin cfg0.N, t.val < n → t.val / 56 = (n - 1) / 56 → slabOf d (grid0.coords t) = hdN m c t.val

/-- Before point `n`: the accumulator is what the point before left. -/
def AccAt (c : Dev nD) (n : ℕ) (a : Vec F S768x512 .f32) : Prop := n ≠ 0 → a = accN m c (n - 1)

theorem coords2 (t : Fin cfg0.N) : (grid0.coords t 2).val = t.val % 7 := by
  have e2 : (grid0.coords t 2).val = t.val / 1 % 7 := Pipeline.Grid.coords_val t 2 (by decide) rfl
  rw [e2, Nat.div_one]

theorem off3_congr {i i' : grid0.Coords} (h : (i 2).val = (i' 2).val) : k0_off3 i = k0_off3 i' := by
  unfold k0_off3; rw [h]

theorem off3_zero : ∀ k : Fin 7, (BitVec.ofNat 32 k.val).toNat = k.val := by decide

theorem off3_val (i : grid0.Coords) : k0_off3 i 0 = (i 2).val := off3_zero (i 2)

theorem slabOf_congr (d : Vec F S7x768x2048 .bf16) {i i' : grid0.Coords} (h : (i 2).val = (i' 2).val) : slabOf d i = slabOf d i' := by
  unfold slabOf
  have e := off3_congr h
  have g : ∀ (o o' : Fin 3 → ℕ) (e : o = o') (p : ∀ a, o a + S1x768x2048.size a ≤ S7x768x2048.size a) (p' : ∀ a, o' a + S1x768x2048.size a ≤ S7x768x2048.size a),
      (VecWindow.window d o S1x768x2048.size p : Vec F S1x768x2048 .bf16) = VecWindow.window d o' S1x768x2048.size p' := by
    intro o o' e p p'; subst e; rfl
  exact g _ _ e _ _

theorem slabOf_put_same (d : Vec F S7x768x2048 .bf16) (i : grid0.Coords) (w : Vec F S1x768x2048 .bf16) : slabOf (slabPut d i w) i = w :=
  VecWindow.window_put_same d _ _ _ w

theorem slabOf_put_ne (d : Vec F S7x768x2048 .bf16) {i i' : grid0.Coords} (h : (i 2).val ≠ (i' 2).val) (w : Vec F S1x768x2048 .bf16) :
    slabOf (slabPut d i w) i' = slabOf d i' := by
  refine VecWindow.window_put_of_disjoint d _ _ _ _ _ w (0 : Fin 3) ?_
  show k0_off3 i' 0 + 1 ≤ k0_off3 i 0 ∨ k0_off3 i 0 + 1 ≤ k0_off3 i' 0
  rw [off3_val, off3_val]; omega

/-- At a point of the first column block the slab is dequantised and put. -/
theorem kept_put (c : Dev nD) (t : Fin cfg0.N) (h0 : t.val / 7 % 8 = 0) {d : Vec F S7x768x2048 .bf16} (h : KeptAt m c t.val d) :
    KeptAt m c (t.val + 1) (slabPut d (grid0.coords t) (hdN m c t.val)) := by
  intro t' hlt hm
  rw [Nat.add_sub_cancel] at hm
  by_cases hk : t'.val % 7 = t.val % 7
  · rw [slabOf_congr _ (show (grid0.coords t' 2).val = (grid0.coords t 2).val by rw [coords2, coords2, hk]), slabOf_put_same]
    exact hdN_congr m c hm.symm hk.symm
  · rw [slabOf_put_ne _ (show (grid0.coords t 2).val ≠ (grid0.coords t' 2).val by rw [coords2, coords2]; exact fun e => hk e.symm)]
    exact h t' (by have : t'.val ≠ t.val := fun e => hk (by rw [e]); omega) (by have : t'.val ≠ t.val := fun e => hk (by rw [e]); omega)

/-- At a point of a later column block the point's slab is in the kept array. -/
theorem kept_slab (c : Dev nD) (t : Fin cfg0.N) (h0 : ¬t.val / 7 % 8 = 0) {d : Vec F S7x768x2048 .bf16} (h : KeptAt m c t.val d) :
    slabOf d (grid0.coords t) = hdN m c t.val := by
  have hN : t.val < 112 := lt_of_lt_of_eq t.isLt (show cfg0.N = 112 from N_0)
  have hv : (pt (t.val - 7)).val = t.val - 7 := pt_val_of_lt (by omega)
  have h' := h (pt (t.val - 7)) (by rw [hv]; omega) (by rw [hv]; omega)
  rw [slabOf_congr d (show (grid0.coords t 2).val = (grid0.coords (pt (t.val - 7)) 2).val by rw [coords2, coords2, hv]; omega), h', hv]
  exact hdN_congr m c (by omega) (by omega)

/-- At a point of a later column block the kept array stays as it is. -/
theorem kept_step (c : Dev nD) (t : Fin cfg0.N) (h0 : ¬t.val / 7 % 8 = 0) {d : Vec F S7x768x2048 .bf16} (h : KeptAt m c t.val d) :
    KeptAt m c (t.val + 1) d := by
  intro t' hlt hm
  rw [Nat.add_sub_cancel] at hm
  by_cases he : t'.val = t.val
  · rw [Fin.ext he]; exact kept_slab m c t h0 h
  · exact h t' (by omega) (by omega)

/-! ## The body's six cases in one statement -/

theorem run (c : Dev nD) (i : grid0.Coords) (arg3 : Memref sig .tc .smem S112x32 .f32) (harg3 : arg3.IsWhole) (arg4 : Memref sig .tc .vmem S1x768x2048 .fp8e4m3) (harg4 : arg4.IsWhole) (arg5 : Memref sig .tc .vmem S1x1x768x16 .f32) (harg5 : arg5.IsWhole) (arg6 : Memref sig .tc .vmem S2048x512 .fp8e4m3) (harg6 : arg6.IsWhole) (arg7 : Memref sig .tc .vmem S1x768x512 .bf16) (harg7 : arg7.IsWhole) (arg8 : Memref sig .tc .vmem S1x768x512 .bf16) (harg8 : arg8.IsWhole) (arg9 : Memref sig .tc .vmem S7x768x2048 .bf16) (harg9 : arg9.IsWhole) (arg10 : Memref sig .tc .vmem S768x512 .f32) (harg10 : arg10.IsWhole)
    (x0 : Vec F S112x32 .f32) (x1 : Vec F S1x768x2048 .fp8e4m3) (x2 : Vec F S1x1x768x16 .f32) (x3 : Vec F S2048x512 .fp8e4m3) (x4 : Vec F S1x768x512 .bf16) (xs0 : Vec F S7x768x2048 .bf16) (xs1 : Vec F S768x512 .f32)
    (xi5 : Vec F S1x768x512 .bf16) (hd : Vec F S7x768x2048 .bf16) (ac : Vec F S768x512 .f32) (ou : Vec F S1x768x512 .bf16)
    (h02 : cond1 i → ¬cond2 i)
    (hhd : hd = if cond0 i then slabPut xs0 i (hdSlab x1 x2) else xs0)
    (hac : ac = k0_pay64 (wTile x3 (wsc i x0)) (if cond1 i then k0_pay63 else xs1) (if cond0 i then hdSlab x1 x2 else slabOf xs0 i))
    (hou : ou = if cond2 i then k0_pay1 x4 ac else xi5)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
                ∗ owns (c : Thread nD τ) arg8 fullShare ou
                ∗ owns (c : Thread nD τ) arg9 fullShare hd
                ∗ owns (c : Thread nD τ) arg10 fullShare ac) -∗ K ⟨⟩))
          ⊢ wp frame (wpE (defs₀ (F := F)) Variants.none c none) E (cc0_down i arg3 harg3 arg4 harg4 arg5 harg5 arg6 harg6 arg7 harg7 arg8 harg8 arg9 harg9 arg10 harg10) K := by
  by_cases h0 : cond0 i <;> by_cases h1 : cond1 i <;> by_cases h2 : cond2 i
  · exact absurd h2 (h02 h1)
  · rw [if_pos h0] at hhd; rw [if_pos h1, if_pos h0] at hac; rw [if_neg h2] at hou; rw [hou, hac, hhd]
    exact runA c i _ harg3 _ harg4 _ harg5 _ harg6 _ harg7 _ harg8 _ harg9 _ harg10 h0 h1 h2 _ _ _ _ _ _ _ _ E K
  · rw [if_pos h0] at hhd; rw [if_neg h1, if_pos h0] at hac; rw [if_pos h2] at hou; rw [hou, hac, hhd]
    exact runC c i _ harg3 _ harg4 _ harg5 _ harg6 _ harg7 _ harg8 _ harg9 _ harg10 h0 h1 h2 _ _ _ _ _ _ _ _ E K
  · rw [if_pos h0] at hhd; rw [if_neg h1, if_pos h0] at hac; rw [if_neg h2] at hou; rw [hou, hac, hhd]
    exact runB c i _ harg3 _ harg4 _ harg5 _ harg6 _ harg7 _ harg8 _ harg9 _ harg10 h0 h1 h2 _ _ _ _ _ _ _ _ E K
  · exact absurd h2 (h02 h1)
  · rw [if_neg h0] at hhd; rw [if_pos h1, if_neg h0] at hac; rw [if_neg h2] at hou; rw [hou, hac, hhd]
    exact runD c i _ harg3 _ harg4 _ harg5 _ harg6 _ harg7 _ harg8 _ harg9 _ harg10 h0 h1 h2 _ _ _ _ _ _ _ _ E K
  · rw [if_neg h0] at hhd; rw [if_neg h1, if_neg h0] at hac; rw [if_pos h2] at hou; rw [hou, hac, hhd]
    exact runF c i _ harg3 _ harg4 _ harg5 _ harg6 _ harg7 _ harg8 _ harg9 _ harg10 h0 h1 h2 _ _ _ _ _ _ _ _ E K
  · rw [if_neg h0] at hhd; rw [if_neg h1, if_neg h0] at hac; rw [if_neg h2] at hou; rw [hou, hac, hhd]
    exact runE c i _ harg3 _ harg4 _ harg5 _ harg6 _ harg7 _ harg8 _ harg9 _ harg10 h0 h1 h2 _ _ _ _ _ _ _ _ E K

end Cert.KernelIdeal.Down

end
-- ==== Proof.KernelIdeal.Frame.lean ====
/- The frame of the kernel at any float values: the grid loop keeps the invariant of `Inv`, so every weakly fair
   execution terminates, the argument arrays end unchanged, and the result array is what the flushed tiles make it. -/
module

public import proofs.«01_k».proof.Proof.KernelIdeal.Inv
public import Idealize.ShloMosaic.Lib.Claim

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: the kept array and the accumulator at contents of which the invariant's pure part holds. -/
def Inv (c : Dev nD) (n : ℕ) : sProp 𝕄 :=
  iprop(iprop((∃ d, ⌜KeptAt m c n d⌝ ∗ owns (c : Thread nD τ) scH fullShare d) ∗ (∃ a, ⌜AccAt m c n a⌝ ∗ owns (c : Thread nD τ) scA fullShare a)) ∗ (∃ r, prngReg c r))

theorem Inv_forget (c : Dev nD) (n : ℕ) : Inv m c n ⊢ Pipeline.ΦA spec0 c := by
  rw [PhiA_eq]; unfold Inv
  iintro ⟨⟨⟨%d, %hd, HS0⟩, ⟨%a, %ha, HS1⟩⟩, Hg⟩
  isplitl [HS0 HS1]
  · isplitl [HS0]
    · iexists _; iexact HS0
    iexists _; iexact HS1
  iexact Hg

theorem Inv_start (c : Dev nD) : Pipeline.ΦA spec0 c ⊢ Inv m c 0 := by
  rw [PhiA_eq]; unfold Inv
  iintro ⟨⟨⟨%d, HS0⟩, ⟨%a, HS1⟩⟩, Hg⟩
  isplitl [HS0 HS1]
  · isplitl [HS0]
    · iexists d; isplitr
      swap; · iexact HS0
      ipureintro; exact fun t h => absurd h (Nat.not_lt_zero _)
    iexists a; isplitr
    swap; · iexact HS1
    ipureintro; exact fun h => absurd rfl h
  iexact Hg

/-! ## The pipeline's proof data -/

/-- The arrays as the region finds them; after the body at a point each input's buffer at its block and the output's at
    `outN`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outN m c t.val
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outN m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem liveAt_0 (t : Fin cfg0.N) : cfg0.idle 0 (grid0.coords t) = false := rfl
theorem liveAt_1 (t : Fin cfg0.N) : cfg0.idle 1 (grid0.coords t) = false := rfl
theorem liveAt_2 (t : Fin cfg0.N) : cfg0.idle 2 (grid0.coords t) = false := rfl
theorem liveAt_3 (t : Fin cfg0.N) : cfg0.idle 3 (grid0.coords t) = false := rfl
theorem liveAt_4 (t : Fin cfg0.N) : cfg0.idle 4 (grid0.coords t) = false := rfl

/-! ## The body obligation, at any point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The kept array after point `t`. -/
theorem kept_after (c : Dev nD) (t : Fin cfg0.N) {d : Vec F S7x768x2048 .bf16} (h : KeptAt m c t.val d) :
    KeptAt m c (t.val + 1) (if cond0 (grid0.coords t) then slabPut d (grid0.coords t) (hdSlab (iblk m c 1 t) (iblk m c 2 t)) else d) := by
  by_cases h0 : t.val / 7 % 8 = 0
  · rw [if_pos ((hcond0 t).mpr h0)]
    have e : hdN m c t.val = hdSlab (iblk m c 1 t) (iblk m c 2 t) := by
      have hf : first t.val = t := by
        rw [show first t.val = pt t.val from congrArg pt (by omega), pt_val]
      unfold hdN; rw [hf]
    rw [← e]; exact kept_put m c t h0 h
  · rw [if_neg (fun e => h0 ((hcond0 t).mp e))]
    exact kept_step m c t h0 h

/-- The accumulator after point `t`. -/
theorem acc_after (c : Dev nD) (t : Fin cfg0.N) {d : Vec F S7x768x2048 .bf16} (h : KeptAt m c t.val d) {a : Vec F S768x512 .f32} (ha : AccAt m c t.val a) :
    accN m c t.val = k0_pay64 (wTile (iblk m c 3 t) (wsc (grid0.coords t) (iblk m c 0 t))) (if cond1 (grid0.coords t) then k0_pay63 else a)
      (if cond0 (grid0.coords t) then hdSlab (iblk m c 1 t) (iblk m c 2 t) else slabOf d (grid0.coords t)) := by
  rw [accN_eq]
  refine pay64_congr ?_ ?_ ?_
  · unfold wN; rw [pt_val]
  · by_cases h1 : t.val % 7 = 0
    · rw [if_pos h1, if_pos ((hcond1 t).mpr h1)]
    · rw [if_neg h1, if_neg (fun e => h1 ((hcond1 t).mp e))]
      exact (ha (fun e => h1 (by rw [e]))).symm
  · by_cases h0 : t.val / 7 % 8 = 0
    · rw [if_pos ((hcond0 t).mpr h0)]
      have hf : first t.val = t := by
        rw [show first t.val = pt t.val from congrArg pt (by omega), pt_val]
      unfold hdN; rw [hf]
    · rw [if_neg (fun e => h0 ((hcond0 t).mp e))]
      exact (kept_slab m c t h0 h).symm

set_option maxHeartbeats 3200000 in
/-- The body at any point: it takes the inputs' blocks and the invariant before the point, and leaves the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  have h12 : cond1 (grid0.coords t) → ¬cond2 (grid0.coords t) := fun h h' => by
    have := (hcond1 t).mp h; have := (hcond2 t).mp h'; omega
  unfold Inv
  by_cases h2 : cond2 (grid0.coords t)
  · rw [show (dats m 0 c).leavesExact 5 t = owns (c : Thread nD τ) (ms5 t) fullShare ((dats m 0 c).after 5 t) from by
      unfold Dat.leavesExact; rw [liveAt5 t h2], after_5]
    iintro ⟨⟨⟨⟨%d, %hd, HS0⟩, ⟨%a, %ha, HS1⟩⟩, Hg⟩, Ho, ⟨%d0, H0⟩, ⟨%d1, H1⟩, ⟨%d2, H2⟩, ⟨%d3, H3⟩, ⟨%d4, H4⟩, ⟨%d5, H5⟩⟩
    iapply (run c (grid0.coords t) _ (hs0 t) _ (hs1 t) _ (hs2 t) _ (hs3 t) _ (hs4 t) _ (hs5 t) _ (Memref.isWhole_whole _) _ (Memref.isWhole_whole _) (iblk m c 0 t) (iblk m c 1 t) (iblk m c 2 t) (iblk m c 3 t) (iblk m c 4 t) d a ((dats m 0 c).before 5 t d5)
      _ (accN m c t.val) (outN m c t.val) h12 rfl (acc_after m c t hd ha) (by rw [if_pos h2]; unfold outN; rw [pt_val]) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr
          swap; · iexact HS0
          ipureintro; exact kept_after m c t hd
        iexists _; isplitr
        swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 5 t (idleAt5 t h2) (noFlush5 t h2)]
    iintro ⟨⟨⟨⟨%d, %hd, HS0⟩, ⟨%a, %ha, HS1⟩⟩, Hg⟩, Ho, ⟨%d0, H0⟩, ⟨%d1, H1⟩, ⟨%d2, H2⟩, ⟨%d3, H3⟩, ⟨%d4, H4⟩, ⟨%d5, H5⟩⟩
    iapply (run c (grid0.coords t) _ (hs0 t) _ (hs1 t) _ (hs2 t) _ (hs3 t) _ (hs4 t) _ (hs5 t) _ (Memref.isWhole_whole _) _ (Memref.isWhole_whole _) (iblk m c 0 t) (iblk m c 1 t) (iblk m c 2 t) (iblk m c 3 t) (iblk m c 4 t) d a ((dats m 0 c).before 5 t d5)
      _ (accN m c t.val) ((dats m 0 c).before 5 t d5) h12 rfl (acc_after m c t hd ha) (by rw [if_neg h2]) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitr
          swap; · iexact HS0
          ipureintro; exact kept_after m c t hd
        iexists _; isplitr
        swap; · iexact HS1
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Inv_start m c

theorem hout (c : Dev nD) : (dats m 0 c).Φ (Fin.last cfg0.N) ⊢ Pipeline.ΦA spec0 c := Inv_forget m c _

/-! ## The run and the frame -/

-- the launch theorem's implicit arguments are found by unifying its conclusion with this one, which takes unfolding plain
-- definitions in a metavariable's type
set_option backward.isDefEq.respectTransparency.types false in
/-- The launch: every array of the pipeline ends at what the proof data give, every other unscoped buffer as the region
    found it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Down

end
-- ==== Proof.KernelIdeal.Value.lean ====
/- The result array after the run, at any float values: index `(b, r, n)` lies in the tile that point
   `7 * (8 * b + n / 512) + 6` writes back, the last step of image `b`'s column block `n / 512`. -/
module

public import proofs.«01_k».proof.Proof.KernelIdeal.Frame
public import Idealize.ShloMosaic.Lib.Pipeline.Value

@[expose] public section

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point that writes an index's tile back. -/
abbrev flushPt (i : S2x768x4096.Idx) : ℕ := 7 * (8 * (i 0).val + (i 2).val / 512) + 6

/-- An index's place in its tile. -/
abbrev place (i : S2x768x4096.Idx) : S1x768x512.Idx := fun a => match a with
  | ⟨0, _⟩ => ⟨(i 0).val % 1, Nat.mod_lt _ (by decide)⟩
  | ⟨1, _⟩ => ⟨(i 1).val, (i 1).isLt⟩
  | ⟨2, _⟩ => ⟨(i 2).val % 512, Nat.mod_lt _ (by decide)⟩

/-- What the result array ends holding. -/
def result (c : Dev nD) : Buf (Elt F) ((c : Thread nD τ).loc main_v2) := fun i => outN m c (flushPt i) (place i)

theorem idx5 : ∀ t : Fin cfg0.N, win0_5.index t (0 : Fin 3) ≤ 1 ∧ win0_5.index t (1 : Fin 3) = 0 ∧ win0_5.index t (2 : Fin 3) ≤ 7
    ∧ 8 * win0_5.index t (0 : Fin 3) + win0_5.index t (2 : Fin 3) = t.val / 7 :=
  (by decide +kernel : ∀ t : Fin grid0.N, _)

/-- What a flushing point writes back is its block of `result`. -/
theorem flushed5 (c : Dev nD) (t : Fin cfg0.N) (hf : (cfg0.win 5).flush t = true) :
    (dats m 0 c).flushed 5 t = ((cfg0.win 5).blk t).view.read (Elt F) (result m c) := by
  show (cfg0.win 5).cut (grid0.coords t) ((dats m 0 c).after 5 t) = _
  rw [after_5]
  have hm : t.val % 7 = 6 := (flush0_5 t).mp hf
  obtain ⟨e0, e1, e2, e3⟩ := idx5 t
  funext y
  have hy0 : (y 0).val < 1 := (y 0).isLt
  have hy1 : (y 1).val < 768 := (y 1).isLt
  have hy2 : (y 2).val < 512 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 768 + 1 * (y 1).val := rfl
  have hb2 : (((cfg0.win 5).blk t).view.emb y 2).val = win0_5.index t (2 : Fin 3) * 512 + 1 * (y 2).val := rfl
  have hl : place (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val = (y 1).val; rw [hb1]; omega
    | ⟨2, _⟩ => show (((cfg0.win 5).blk t).view.emb y 2).val % 512 = (y 2).val; rw [hb2]; omega
  have hp : flushPt (((cfg0.win 5).blk t).view.emb y) = t.val := by
    show 7 * (8 * (((cfg0.win 5).blk t).view.emb y 0).val + (((cfg0.win 5).blk t).view.emb y 2).val / 512) + 6 = t.val
    rw [hb0, hb2]; omega
  show outN m c t.val ((cfg0.win 5).xinj (grid0.coords t) y) = outN m c (flushPt (((cfg0.win 5).blk t).view.emb y)) (place (((cfg0.win 5).blk t).view.emb y))
  rw [hp, hl]

theorem mem_blk5 (t : Fin cfg0.N) (i : S2x768x4096.Idx) :
    i ∈ ((cfg0.win 5).blk t).view.set ↔ ∀ a : Fin 3, win0_5.index t a * S1x768x512.size a ≤ (i a).val ∧ (i a).val < win0_5.index t a * S1x768x512.size a + S1x768x512.size a := by
  show i ∈ ((View.whole main_v2).slice (win0_5.rect t)).set ↔ _
  rw [View.set_slice_whole, Rect.mem_set_unit]
  exact Iff.rfl

/-- Every index is in the block of the point that writes it back. -/
theorem covered5 (i : S2x768x4096.Idx) : ∃ t : Fin cfg0.N, (cfg0.win 5).flush t = true ∧ i ∈ ((cfg0.win 5).blk t).view.set := by
  have hi0 : (i 0).val < 2 := (i 0).isLt
  have hi1 : (i 1).val < 768 := (i 1).isLt
  have hi2 : (i 2).val < 4096 := (i 2).isLt
  have hv : (pt (flushPt i)).val = 7 * (8 * (i 0).val + (i 2).val / 512) + 6 := pt_val_of_lt (by show 7 * (8 * (i 0).val + (i 2).val / 512) + 6 < 112; omega)
  refine ⟨pt (flushPt i), (flush0_5 _).mpr (by rw [hv]; omega), ?_⟩
  obtain ⟨e0, e1, e2, e3⟩ := idx5 (pt (flushPt i))
  rw [hv] at e3
  rw [mem_blk5]
  intro a
  match a with
  | ⟨0, _⟩ => show win0_5.index (pt (flushPt i)) (0 : Fin 3) * 1 ≤ (i 0).val ∧ (i 0).val < win0_5.index (pt (flushPt i)) (0 : Fin 3) * 1 + 1; omega
  | ⟨1, _⟩ => show win0_5.index (pt (flushPt i)) (1 : Fin 3) * 768 ≤ (i 1).val ∧ (i 1).val < win0_5.index (pt (flushPt i)) (1 : Fin 3) * 768 + 768; omega
  | ⟨2, _⟩ => show win0_5.index (pt (flushPt i)) (2 : Fin 3) * 512 ≤ (i 2).val ∧ (i 2).val < win0_5.index (pt (flushPt i)) (2 : Fin 3) * 512 + 512; omega

theorem final5 (c : Dev nD) : (dats m 0 c).arrAt 5 cfg0.N = result m c :=
  (dats m 0 c).arrAt_eq_of_cover 5 _ (fun t hf => flushed5 m c t hf) covered5

/-- The run, read: the result array is `result`, the arguments unchanged. -/
theorem run_value : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), h.2 c⟩)
    (θ_run_and (run_main m ρ) (frame_of m ρ (dats m) (A_eq m) (run_main m ρ)))

end Cert.KernelIdeal.Down

end
-- ==== Proof.KernelIdeal.Tiles.lean ====
/- The kernel's tiles at an index, over the reals: an entry of the dequantised slab of h, an entry of the dequantised
   weight tile, one accumulation step, and the output tile. -/
module

public import proofs.«01_k».proof.Proof.KernelIdeal.Base
public import Idealize.ShloMosaic.Lib.Pointwise

@[expose] public section

set_option maxRecDepth 16384

noncomputable section

namespace Cert.KernelIdeal.Down

open Cert.KernelIdeal Cert.KernelIdeal.Gen Idealize.ShloMosaic

theorem pay63_apply (r : Fin 768) (n : Fin 512) : (k0_pay63 (F := Ideal)) (ix2 r n) = 0 := by
  pointwise [k0_pay63]

theorem pay64_apply (w : FVec Ideal S2048x512 .bf16) (a : Vec Ideal S768x512 .f32) (h : Vec Ideal S1x768x2048 .bf16) (r : Fin 768) (n : Fin 512) :
    k0_pay64 w a h (ix2 r n) = a (ix2 r n) + ∑ k : Fin 2048, h (ix3 0 r k) * w (ix2 k n) := by
  pointwise [k0_pay64]

theorem pay1_apply (x : Vec Ideal S1x768x512 .bf16) (a : Vec Ideal S768x512 .f32) (r : Fin 768) (n : Fin 512) :
    k0_pay1 x a (ix3 0 r n) = x (ix3 0 r n) + a (ix2 r n) := by
  pointwise [k0_pay1]

/-! ## Equal pieces side by side -/

/-- A concatenation of equal pieces, listed one by one, read at an index. -/
theorem concat_apply {α : Type} {t s₁ : Shape} (a : Fin t.rank) {N : ℕ} (f : Fin N → (s₁.Idx → α)) {xs : List ((s : Shape) × (s.Idx → α))}
    (e : xs = List.ofFn fun n : Fin N => (⟨s₁, f n⟩ : (s : Shape) × (s.Idx → α)))
    (h : Shape.Concatenates (xs.map (·.1)) t a)
    (hr : s₁.rank = t.rank) (K : ℕ) (hK : s₁.size (a.cast hr.symm) = K) (j : t.Idx) (n : Fin N) (hn : (j a).val / K = n.val)
    (i : s₁.Idx) (hia : (i (a.cast hr.symm)).val = (j a).val % K) (hi : ∀ b : Fin s₁.rank, b.cast hr ≠ a → (i b).val = (j (b.cast hr)).val) :
    concatenate t a xs h j = f n i := by
  subst e; exact concatenate_ofFn_apply a f h hr K hK j n hn i hia hi

/-! ## The slab of h -/

theorem slices_code : ∀ q : Fin 16, S768x2048.Slices ![0, 128 * q.val] S768x128 := by decide
theorem slices_scale : ∀ q : Fin 16, S768x16.Slices ![0, q.val] S768x1 := by decide

theorem hdGroup_apply (x1 : Vec Ideal S1x768x2048 .fp8e4m3) (x2 : Vec Ideal S1x1x768x16 .f32) (q : Fin 16) (r : Fin 768) (l : Fin 128) :
    hdGroup x1 x2 ![0, 128 * q.val] ![0, q.val] (slices_code q) (slices_scale q) (ix2 r l) = x1 (ix3 0 r ⟨128 * q.val + l.val, by omega⟩) * x2 (ix4 0 0 r q) := by
  pointwise [hdGroup]

/-- An entry of the dequantised slab of h: the code times its group's scale. -/
theorem hdSlab_apply (x1 : Vec Ideal S1x768x2048 .fp8e4m3) (x2 : Vec Ideal S1x1x768x16 .f32) (r : Fin 768) (k : Fin 2048) :
    hdSlab x1 x2 (ix3 0 r k) = x1 (ix3 0 r k) * x2 (ix4 0 0 r ⟨k.val / 128, by omega⟩) := by
  have key : ∀ y : Vec Ideal S768x2048 .bf16, shapeCast S1x768x2048 y shapeCasts_S768x2048_S1x768x2048 (ix3 0 r k) = y (ix2 r k) := by
    intro y; pointwise
  unfold hdSlab
  refine (key _).trans (Eq.trans (concat_apply (t := S768x2048) (s₁ := S768x128) 1 (fun q : Fin 16 => hdGroup x1 x2 ![0, 128 * q.val] ![0, q.val] (slices_code q) (slices_scale q)) (by rfl) _ rfl 128 rfl (ix2 r k)
    ⟨k.val / 128, by omega⟩ rfl (ix2 r ⟨k.val % 128, by omega⟩) rfl (fun b hb => by
      match b with
      | ⟨0, _⟩ => rfl
      | ⟨1, _⟩ => exact absurd rfl hb)) ?_)
  rw [hdGroup_apply]
  congr 3
  exact Fin.ext (Nat.div_add_mod k.val 128)

/-! ## The weight tile -/

theorem slices_w : ∀ (p : Fin 16) (q : Fin 4), S2048x512.Slices ![128 * p.val, 128 * q.val] S128x128 := by decide

theorem wSub_apply (x3 : Vec Ideal S2048x512 .fp8e4m3) (s : EReal) (p : Fin 16) (q : Fin 4) (k l : Fin 128) :
    wSub x3 s ![128 * p.val, 128 * q.val] (slices_w p q) (ix2 k l) = x3 (ix2 ⟨128 * p.val + k.val, by omega⟩ ⟨128 * q.val + l.val, by omega⟩) * s := by
  pointwise [wSub]

/-- A row of four 128×128 tiles of the weight. -/
def wRow (x3 : Vec Ideal S2048x512 .fp8e4m3) (s : Fin 16 → Fin 4 → EReal) (p : Fin 16) : Vec Ideal S128x512 .bf16 :=
  concatenate S128x512 1 (List.ofFn fun q : Fin 4 => (⟨S128x128, wSub x3 (s p q) ![128 * p.val, 128 * q.val] (slices_w p q)⟩ : (s : Shape) × (s.Idx → EReal)))
    concatenates_S128x128_S128x128_S128x128_S128x128_S128x512_d1

theorem wRow_apply (x3 : Vec Ideal S2048x512 .fp8e4m3) (s : Fin 16 → Fin 4 → EReal) (p : Fin 16) (k : Fin 128) (n : Fin 512) :
    wRow x3 s p (ix2 k n) = x3 (ix2 ⟨128 * p.val + k.val, by omega⟩ n) * s p ⟨n.val / 128, by omega⟩ := by
  unfold wRow
  refine Eq.trans (concat_apply (t := S128x512) (s₁ := S128x128) 1 (fun q : Fin 4 => wSub x3 (s p q) ![128 * p.val, 128 * q.val] (slices_w p q)) (by rfl) _ rfl 128 rfl (ix2 k n)
    ⟨n.val / 128, by omega⟩ rfl (ix2 k ⟨n.val % 128, by omega⟩) rfl (fun b hb => by
      match b with
      | ⟨0, _⟩ => rfl
      | ⟨1, _⟩ => exact absurd rfl hb)) ?_
  rw [wSub_apply]
  congr 3
  exact Fin.ext (Nat.div_add_mod n.val 128)

/-- An entry of the dequantised weight tile: the code times its 128×128 block's scale. -/
theorem wTile_apply (x3 : Vec Ideal S2048x512 .fp8e4m3) (s : Fin 16 → Fin 4 → EReal) (k : Fin 2048) (n : Fin 512) :
    wTile x3 s (ix2 k n) = x3 (ix2 k n) * s ⟨k.val / 128, by omega⟩ ⟨n.val / 128, by omega⟩ := by
  unfold wTile
  refine Eq.trans (concat_apply (t := S2048x512) (s₁ := S128x512) 0 (fun p : Fin 16 => wRow x3 s p) (by rfl) _ rfl 128 rfl (ix2 k n)
    ⟨k.val / 128, by omega⟩ rfl (ix2 ⟨k.val % 128, by omega⟩ n) rfl (fun b hb => by
      match b with
      | ⟨0, _⟩ => exact absurd rfl hb
      | ⟨1, _⟩ => rfl)) ?_
  rw [wRow_apply]
  congr 3
  exact Fin.ext (Nat.div_add_mod k.val 128)

end Cert.KernelIdeal.Down

end
-- ==== Proof.KernelIdeal.Blocks.lean ====
/- The blocks the grid points work on, read from the argument arrays: which entries of the codes, the scales, the
   weight and the residual a point's tile holds. -/
module

public import proofs.«01_k».proof.Proof.KernelIdeal.Inv
public import proofs.«01_k».proof.Proof.KernelIdeal.Tiles

@[expose] public section

set_option maxRecDepth 16384

noncomputable section

namespace Cert.KernelIdeal.Down

open Cert.KernelIdeal Cert.KernelIdeal.Gen
open Idealize.ShloMosaic Idealize.ShloMosaic.TcCoe

variable (m : (ℓ : Loc nD τ sig) → Buf (Elt Ideal) ℓ)

/-! ## The argument arrays at their literal types -/

abbrev argH (c : Dev nD) : Vec Ideal S2x768x14336 .fp8e4m3 := m ((c : Thread nD τ).loc main_arg0)
abbrev argHs (c : Dev nD) : Vec Ideal S2x768x112 .f32 := m ((c : Thread nD τ).loc main_arg1)
abbrev argW (c : Dev nD) : Vec Ideal S14336x4096 .fp8e4m3 := m ((c : Thread nD τ).loc main_arg2)
abbrev argWs (c : Dev nD) : Vec Ideal S112x32 .f32 := m ((c : Thread nD τ).loc main_arg3)
abbrev argR (c : Dev nD) : Vec Ideal S2x768x4096 .bf16 := m ((c : Thread nD τ).loc main_arg4)

/-- The scales of h as the grid reads them: the groups split into seven steps of 16, the steps before the rows. -/
theorem V_main_v1 (c : Dev nD) : V m c main_v1 = transpose S2x7x768x16 [0, 2, 1, 3] (shapeCast S2x768x7x16 (argHs m c) shapeCasts_S2x768x112_S2x768x7x16) transposes_S2x768x7x16_S2x7x768x16_0_2_1_3 := by
  unfold V hostOps0
  after_results_simp
  rfl

theorem hscale_apply (c : Dev nD) (b : Fin 2) (j : Fin 7) (r : Fin 768) (g : Fin 16) :
    (V m c main_v1 : Vec Ideal S2x7x768x16 .f32) (ix4 b j r g) = argHs m c (ix3 b r ⟨16 * j.val + g.val, by omega⟩) := by
  rw [V_main_v1]
  pointwise
  rw [show (⟨j.val * 16 + g.val, by omega⟩ : Fin 112) = ⟨16 * j.val + g.val, by omega⟩ from Fin.ext (by show j.val * 16 + g.val = 16 * j.val + g.val; omega)]

/-! ## Which block a point has -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, t.val / 7 % 8 = 0 → win0_1.index t (0 : Fin 3) = t.val / 56 ∧ win0_1.index t (1 : Fin 3) = 0 ∧ win0_1.index t (2 : Fin 3) = t.val % 7 :=
  (by decide +kernel : ∀ t : Fin grid0.N, _)
theorem idx2 : ∀ t : Fin cfg0.N, t.val / 7 % 8 = 0 → win0_2.index t (0 : Fin 4) = t.val / 56 ∧ win0_2.index t (1 : Fin 4) = t.val % 7 ∧ win0_2.index t (2 : Fin 4) = 0 ∧ win0_2.index t (3 : Fin 4) = 0 :=
  (by decide +kernel : ∀ t : Fin grid0.N, _)
theorem idx3 : ∀ t : Fin cfg0.N, win0_3.index t (0 : Fin 2) = t.val % 7 ∧ win0_3.index t (1 : Fin 2) = t.val / 7 % 8 :=
  (by decide +kernel : ∀ t : Fin grid0.N, _)
theorem idx4 : ∀ t : Fin cfg0.N, win0_4.index t (0 : Fin 3) = t.val / 56 ∧ win0_4.index t (1 : Fin 3) = 0 ∧ win0_4.index t (2 : Fin 3) = t.val / 7 % 8 :=
  (by decide +kernel : ∀ t : Fin grid0.N, _)

variable (c : Dev nD) (b : Fin 2) (n : Fin 8) (j : Fin 7)

/-- The number of the point of image `b`, column block `n` and step `j`. -/
abbrev num : ℕ := 56 * b.val + 7 * n.val + j.val

theorem pt_num : (pt (num b n j)).val = 56 * b.val + 7 * n.val + j.val := pt_val_of_lt (by unfold num; omega)

theorem first_num : (first (num b n j)).val = 56 * b.val + j.val := by
  unfold first; rw [pt_val_of_lt] <;> unfold num <;> omega

theorem blk0 (y : S112x32.Idx) : iblk m c 0 (pt (num b n j)) y = argWs m c y := by
  obtain ⟨e0, e1⟩ := idx0 (pt (num b n j))
  show V m c main_arg3 (((cfg0.win 0).blk (pt (num b n j))).view.emb y) = _
  rw [V_main_arg3]
  refine congrArg (argWs m c) (funext fun a => Fin.ext ?_)
  match a with
  | ⟨0, _⟩ => show win0_0.index (pt (num b n j)) (0 : Fin 2) * 112 + 1 * (y 0).val = (y 0).val; omega
  | ⟨1, _⟩ => show win0_0.index (pt (num b n j)) (1 : Fin 2) * 32 + 1 * (y 1).val = (y 1).val; omega

theorem blk1 (r : Fin 768) (k : Fin 2048) :
    iblk m c 1 (first (num b n j)) (ix3 0 r k) = argH m c (ix3 b r ⟨2048 * j.val + k.val, by omega⟩) := by
  have hv := first_num b n j
  obtain ⟨e0, e1, e2⟩ := idx1 (first (num b n j)) (by rw [hv]; omega)
  rw [hv] at e0 e2
  show V m c main_arg0 (((cfg0.win 1).blk (first (num b n j))).view.emb (ix3 0 r k)) = _
  rw [V_main_arg0]
  refine congrArg (argH m c) (funext fun a => Fin.ext ?_)
  match a with
  | ⟨0, _⟩ => show win0_1.index (first (num b n j)) (0 : Fin 3) * 1 + 1 * 0 = b.val; omega
  | ⟨1, _⟩ => show win0_1.index (first (num b n j)) (1 : Fin 3) * 768 + 1 * r.val = r.val; omega
  | ⟨2, _⟩ => show win0_1.index (first (num b n j)) (2 : Fin 3) * 2048 + 1 * k.val = 2048 * j.val + k.val; omega

theorem blk2 (r : Fin 768) (g : Fin 16) :
    iblk m c 2 (first (num b n j)) (ix4 0 0 r g) = argHs m c (ix3 b r ⟨16 * j.val + g.val, by omega⟩) := by
  have hv := first_num b n j
  obtain ⟨e0, e1, e2, e3⟩ := idx2 (first (num b n j)) (by rw [hv]; omega)
  rw [hv] at e0 e1
  rw [← hscale_apply]
  show V m c main_v1 (((cfg0.win 2).blk (first (num b n j))).view.emb (ix4 0 0 r g)) = _
  refine congrArg (V m c main_v1) (funext fun a => Fin.ext ?_)
  match a with
  | ⟨0, _⟩ => show win0_2.index (first (num b n j)) (0 : Fin 4) * 1 + 1 * 0 = b.val; omega
  | ⟨1, _⟩ => show win0_2.index (first (num b n j)) (1 : Fin 4) * 1 + 1 * 0 = j.val; omega
  | ⟨2, _⟩ => show win0_2.index (first (num b n j)) (2 : Fin 4) * 768 + 1 * r.val = r.val; omega
  | ⟨3, _⟩ => show win0_2.index (first (num b n j)) (3 : Fin 4) * 16 + 1 * g.val = g.val; omega

theorem blk3 (k : Fin 2048) (l : Fin 512) :
    iblk m c 3 (pt (num b n j)) (ix2 k l) = argW m c (ix2 ⟨2048 * j.val + k.val, by omega⟩ ⟨512 * n.val + l.val, by omega⟩) := by
  have hv := pt_num b n j
  obtain ⟨e0, e1⟩ := idx3 (pt (num b n j))
  rw [hv] at e0 e1
  show V m c main_arg2 (((cfg0.win 3).blk (pt (num b n j))).view.emb (ix2 k l)) = _
  rw [V_main_arg2]
  refine congrArg (argW m c) (funext fun a => Fin.ext ?_)
  match a with
  | ⟨0, _⟩ => show win0_3.index (pt (num b n j)) (0 : Fin 2) * 2048 + 1 * k.val = 2048 * j.val + k.val; omega
  | ⟨1, _⟩ => show win0_3.index (pt (num b n j)) (1 : Fin 2) * 512 + 1 * l.val = 512 * n.val + l.val; omega

theorem blk4 (r : Fin 768) (l : Fin 512) :
    iblk m c 4 (pt (num b n j)) (ix3 0 r l) = argR m c (ix3 b r ⟨512 * n.val + l.val, by omega⟩) := by
  have hv := pt_num b n j
  obtain ⟨e0, e1, e2⟩ := idx4 (pt (num b n j))
  rw [hv] at e0 e2
  show V m c main_arg4 (((cfg0.win 4).blk (pt (num b n j))).view.emb (ix3 0 r l)) = _
  rw [V_main_arg4]
  refine congrArg (argR m c) (funext fun a => Fin.ext ?_)
  match a with
  | ⟨0, _⟩ => show win0_4.index (pt (num b n j)) (0 : Fin 3) * 1 + 1 * 0 = b.val; omega
  | ⟨1, _⟩ => show win0_4.index (pt (num b n j)) (1 : Fin 3) * 768 + 1 * r.val = r.val; omega
  | ⟨2, _⟩ => show win0_4.index (pt (num b n j)) (2 : Fin 3) * 512 + 1 * l.val = 512 * n.val + l.val; omega

/-- The scale words of the weight tile: row `p` of the tile's 16 and column `q` of its four. -/
theorem off2_val : ∀ (j : Fin 7) (n : Fin 8) (p : Fin 16) (q : Fin 4),
    (Scalar.indexCast (Scalar.addi (Scalar.muli (BitVec.ofNat 32 j.val) 16#32) (BitVec.ofNat 32 p.val)) : BitVec 32).toNat = 16 * j.val + p.val
    ∧ (Scalar.indexCast (Scalar.addi (Scalar.muli (BitVec.ofNat 32 n.val) 4#32) (BitVec.ofNat 32 q.val)) : BitVec 32).toNat = 4 * n.val + q.val := by
  decide +kernel

theorem wsc_apply (x0 : Vec Ideal S112x32 .f32) (i : grid0.Coords) (p : Fin 16) (q : Fin 4) (u : Fin 112) (v : Fin 32)
    (hu : u.val = 16 * (i 2).val + p.val) (hv : v.val = 4 * (i 1).val + q.val) : wsc i x0 p q = x0 (ix2 u v) := by
  have h := off2_val (i 2) (i 1) p q
  unfold wsc
  refine congrArg x0 (funext fun a => Fin.ext ?_)
  match a with
  | ⟨0, _⟩ =>
    show (Scalar.indexCast (Scalar.addi (Scalar.muli (BitVec.ofNat 32 (i 2).val) 16#32) (BitVec.ofNat 32 p.val)) : BitVec 32).toNat + 1 * 0 = u.val
    rw [h.1, hu]; omega
  | ⟨1, _⟩ =>
    show (Scalar.indexCast (Scalar.addi (Scalar.muli (BitVec.ofNat 32 (i 1).val) 4#32) (BitVec.ofNat 32 q.val)) : BitVec 32).toNat + 1 * 0 = v.val
    rw [h.2, hv]; omega

end Cert.KernelIdeal.Down

end
-- ==== Proof.RefIdx.lean ====
/- The reference's result at an index, over the reals: the residual plus the whole contraction of the dequantised h
   and the dequantised weight. -/
module

public import proofs.«01_k».proof.Proof.Gen.ReferenceIdeal.Value
public import Idealize.ShloMosaic.Lib.Pointwise

@[expose] public section

set_option maxRecDepth 16384

noncomputable section

namespace Cert.Down

open Idealize.ShloMosaic

/-- One product of the contraction: both factors dequantised. -/
abbrev term (hc : Vec Ideal Cert.ReferenceIdeal.S2x768x14336 .fp8e4m3) (hs : Vec Ideal Cert.ReferenceIdeal.S2x768x112 .f32)
    (w : Vec Ideal Cert.ReferenceIdeal.S14336x4096 .fp8e4m3) (ws : Vec Ideal Cert.ReferenceIdeal.S112x32 .f32)
    (b : Fin 2) (r : Fin 768) (n : Fin 4096) (k : Fin 14336) : EReal :=
  (hc (ix3 b r k) * hs (ix3 b r ⟨k.val / 128, by omega⟩)) * (w (ix2 k n) * ws (ix2 ⟨k.val / 128, by omega⟩ ⟨n.val / 128, by omega⟩))

theorem ref_apply (hc : Vec Ideal Cert.ReferenceIdeal.S2x768x14336 .fp8e4m3) (hs : Vec Ideal Cert.ReferenceIdeal.S2x768x112 .f32)
    (w : Vec Ideal Cert.ReferenceIdeal.S14336x4096 .fp8e4m3) (ws : Vec Ideal Cert.ReferenceIdeal.S112x32 .f32)
    (res : Vec Ideal Cert.ReferenceIdeal.S2x768x4096 .bf16) (b : Fin 2) (r : Fin 768) (n : Fin 4096) :
    Cert.ReferenceIdeal.Value.G5 hc hs w ws res (ix3 b r n) = res (ix3 b r n) + ∑ k : Fin 14336, term hc hs w ws b r n k := by
  pointwise [Cert.ReferenceIdeal.Value.G5, Cert.ReferenceIdeal.Gen.k0_pay1, term]

end Cert.Down

end
-- ==== Proof.KernelIdeal.Equal.lean ====
/- The kernel's result over the reals is the reference's: the seven steps of a column block add up the whole
   contraction, 2048 products at a time, and the tiles lie side by side in the result. -/
module

public import proofs.«01_k».proof.Proof.KernelIdeal.Value
public import proofs.«01_k».proof.Proof.KernelIdeal.Blocks
public import proofs.«01_k».proof.Proof.RefIdx

@[expose] public section

set_option maxRecDepth 16384

noncomputable section

namespace Cert.KernelIdeal.Down

open Cert.KernelIdeal Cert.KernelIdeal.Gen
open Idealize.ShloMosaic Idealize.ShloMosaic.TcCoe
open Cert.Down (term)

/-- A sum over 14336 indices, 2048 at a time. -/
theorem sum_steps {α : Type} [AddCommMonoid α] (f : Fin 14336 → α) :
    ∑ k : Fin 14336, f k = ∑ j : Fin 7, ∑ k : Fin 2048, f ⟨2048 * j.val + k.val, by omega⟩ := by
  have e := (finProdFinEquiv (m := 7) (n := 2048)).sum_comp (fun x => f ⟨x.val, x.isLt⟩)
  refine Eq.trans e.symm ?_
  rw [Fintype.sum_prod_type]
  refine Finset.sum_congr rfl fun j _ => Finset.sum_congr rfl fun k _ => congrArg f (Fin.ext ?_)
  show k.val + 2048 * j.val = 2048 * j.val + k.val
  omega

variable (m : (ℓ : Loc nD τ sig) → Buf (Elt Ideal) ℓ) (c : Dev nD)

/-- A product of step `j` is the whole contraction's product at `2048 j + k`. -/
theorem step_term (b : Fin 2) (n : Fin 8) (j : Fin 7) (r : Fin 768) (l : Fin 512) (k : Fin 2048) :
    hdN m c (num b n j) (ix3 0 r k) * wN m c (num b n j) (ix2 k l)
      = term (argH m c) (argHs m c) (argW m c) (argWs m c) b r ⟨512 * n.val + l.val, by omega⟩ ⟨2048 * j.val + k.val, by omega⟩ := by
  have hv := pt_num b n j
  have e2 : (grid0.coords (pt (num b n j)) 2).val = j.val := by rw [coords2, hv]; omega
  have e1 : (grid0.coords (pt (num b n j)) 1).val = n.val := by
    have e : (grid0.coords (pt (num b n j)) 1).val = (pt (num b n j)).val / 7 % 8 := Pipeline.Grid.coords_val _ 1 (by decide) rfl
    rw [e, hv]; omega
  unfold hdN wN
  rw [hdSlab_apply, wTile_apply, blk1, blk2, blk3]
  rw [wsc_apply (iblk m c 0 (pt (num b n j))) _ ⟨k.val / 128, by omega⟩ ⟨l.val / 128, by omega⟩ ⟨(2048 * j.val + k.val) / 128, by omega⟩ ⟨(512 * n.val + l.val) / 128, by omega⟩
    (by rw [e2]; show (2048 * j.val + k.val) / 128 = 16 * j.val + k.val / 128; omega)
    (by rw [e1]; show (512 * n.val + l.val) / 128 = 4 * n.val + l.val / 128; omega), blk0]
  have eg : (⟨16 * j.val + k.val / 128, by omega⟩ : Fin 112) = ⟨(2048 * j.val + k.val) / 128, by omega⟩ := Fin.ext (by
    show 16 * j.val + k.val / 128 = (2048 * j.val + k.val) / 128; omega)
  unfold term
  refine congrArg₂ (· * ·) (congrArg₂ (· * ·) rfl (congrArg (fun g => argHs m c (ix3 b r g)) eg)) rfl

/-- The accumulator after step `j` of a column block: the products of the steps so far. -/
theorem acc_sum (b : Fin 2) (n : Fin 8) (r : Fin 768) (l : Fin 512) : ∀ (j : ℕ) (_ : j < 7),
    accN m c (56 * b.val + 7 * n.val + j) (ix2 r l) = ∑ j' : Fin (j + 1), ∑ k : Fin 2048,
      hdN m c (56 * b.val + 7 * n.val + j'.val) (ix3 0 r k) * wN m c (56 * b.val + 7 * n.val + j'.val) (ix2 k l)
  | 0, _ => by
    rw [accN_eq, if_pos (by omega), pay64_apply, pay63_apply, zero_add]
    simp
  | j + 1, h => by
    rw [accN_eq, if_neg (by omega), pay64_apply]
    have ih := acc_sum b n r l j (by omega)
    rw [show 56 * b.val + 7 * n.val + (j + 1) - 1 = 56 * b.val + 7 * n.val + j by omega, ih]
    exact (Fin.sum_univ_castSucc (fun j' : Fin (j + 1 + 1) => ∑ k : Fin 2048,
      hdN m c (56 * b.val + 7 * n.val + j'.val) (ix3 0 r k) * wN m c (56 * b.val + 7 * n.val + j'.val) (ix2 k l))).symm

theorem acc_last (b : Fin 2) (n : Fin 8) (r : Fin 768) (l : Fin 512) :
    accN m c (num b n 6) (ix2 r l)
      = ∑ k : Fin 14336, term (argH m c) (argHs m c) (argW m c) (argWs m c) b r ⟨512 * n.val + l.val, by omega⟩ k := by
  refine (acc_sum m c b n r l 6 (by omega)).trans ?_
  rw [sum_steps]
  exact Finset.sum_congr rfl fun j _ => Finset.sum_congr rfl fun k _ => step_term m c b n j r l k

theorem result_apply (b : Fin 2) (r : Fin 768) (n : Fin 4096) :
    (result m c : Vec Ideal S2x768x4096 .bf16) (ix3 b r n)
      = argR m c (ix3 b r n) + ∑ k : Fin 14336, term (argH m c) (argHs m c) (argW m c) (argWs m c) b r n k := by
  have hp : place (ix3 b r n) = ix3 0 r ⟨n.val % 512, by omega⟩ := by
    funext a; apply Fin.ext
    match a with
    | ⟨0, _⟩ => show b.val % 1 = 0; omega
    | ⟨1, _⟩ => rfl
    | ⟨2, _⟩ => rfl
  have hf : flushPt (ix3 b r n) = num b ⟨n.val / 512, by omega⟩ 6 := by
    show 7 * (8 * b.val + n.val / 512) + 6 = 56 * b.val + 7 * (n.val / 512) + 6
    omega
  have hn : (⟨512 * (n.val / 512) + n.val % 512, by omega⟩ : Fin 4096) = n := Fin.ext (by show 512 * (n.val / 512) + n.val % 512 = n.val; omega)
  show outN m c (flushPt (ix3 b r n)) (place (ix3 b r n)) = _
  rw [hp, hf]
  unfold outN
  rw [pay1_apply, blk4, acc_last]
  show argR m c (ix3 b r ⟨512 * (n.val / 512) + n.val % 512, _⟩) + ∑ k : Fin 14336, term _ _ _ _ b r ⟨512 * (n.val / 512) + n.val % 512, _⟩ k = _
  rw [hn]

/-- The kernel's result is the reference's function of the same arguments. -/
theorem result_eq : result m c = Cert.ReferenceIdeal.Value.G5 (argH m c) (argHs m c) (argW m c) (argWs m c) (argR m c) := by
  funext (i : S2x768x4096.Idx)
  obtain ⟨b, r, n, rfl⟩ : ∃ (b : Fin 2) (r : Fin 768) (n : Fin 4096), i = ix3 b r n := ⟨i 0, i 1, i 2, eq_ix3 i⟩
  exact (result_apply m c b r n).trans (Cert.Down.ref_apply (argH m c) (argHs m c) (argW m c) (argWs m c) (argR m c) b r n).symm

end Cert.KernelIdeal.Down

end
-- ==== Proof.lean ====
/- The proof of the claim: the frames of the three programs and that the kernel's result over the reals is the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Equal
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal := by
  intro m g m' g' _ hargs
  refine ⟨fun c => Cert.KernelIdeal.Down.result m c, Cert.KernelIdeal.Down.run_value m g, ?_⟩
  refine θ_run_mono (Cert.ReferenceIdeal.Value.run m' g') (fun x hx c => ?_)
  refine ⟨(hx c).1.trans ?_, (hx c).2⟩
  obtain ⟨h0, h1, h2, h3, h4⟩ := hargs c
  rw [h0, h1, h2, h3, h4]
  exact (Cert.KernelIdeal.Down.result_eq m c).symm

theorem claim : Cert.Claim := ⟨Cert.Kernel.Gen.facts, Cert.KernelIdeal.Gen.facts, Cert.ReferenceIdeal.Gen.facts,
  fun m ρ _ => Cert.Kernel.Down.frame m ρ, fun m ρ _ => Cert.KernelIdeal.Down.frame m ρ, fun m ρ _ => Cert.ReferenceIdeal.Gen.frame m ρ,
  trivial, algebraic⟩

end Cert.Proof

end
